-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_sorted_batch [hPre_sorted_batch : Cert.Pre_sorted_batch.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_batch.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_batch [hPre_sorted_batch : Cert.Pre_sorted_batch.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_batch.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sorted_batch [hKernelIdeal : Cert.KernelIdeal.Facts] [hPre_sorted_batch : Cert.Pre_sorted_batch.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_batch m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sorted_batch [hReferenceIdeal : Cert.ReferenceIdeal.Facts] [hPre_sorted_batch : Cert.Pre_sorted_batch.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_batch m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_sorted_batch [hKernelIdeal : Cert.KernelIdeal.Facts] [hReferenceIdeal : Cert.ReferenceIdeal.Facts] [hPre_sorted_batch : Cert.Pre_sorted_batch.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_batch m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts) (hPre_sorted_batch : Cert.Pre_sorted_batch.Facts),
    quiescent_Kernel (hKernel := hKernel) (hPre_in_range := hPre_in_range)
    ∧ quiescent_KernelIdeal (hKernelIdeal := hKernelIdeal) (hPre_in_range := hPre_in_range)
    ∧ quiescent_KernelIdeal_pre_sorted_batch (hKernelIdeal := hKernelIdeal) (hPre_sorted_batch := hPre_sorted_batch)
    ∧ quiescent_ReferenceIdeal (hReferenceIdeal := hReferenceIdeal)
    ∧ quiescent_ReferenceIdeal_pre_sorted_batch (hReferenceIdeal := hReferenceIdeal) (hPre_sorted_batch := hPre_sorted_batch)
    ∧ preserves_Kernel_KernelIdeal
    ∧ algebraic_KernelIdeal_ReferenceIdeal_pre_sorted_batch (hKernelIdeal := hKernelIdeal) (hReferenceIdeal := hReferenceIdeal) (hPre_sorted_batch := hPre_sorted_batch)
-- ==== Pre_in_range.lean ====
abbrev S100000x128 : Shape := ⟨2, ![100000, 128]⟩
abbrev S100000 : Shape := ⟨1, ![100000]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x128 .f32) (main_arg1 : IVec S100000 32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 1 := constantI S_ 1 1#1
  let main_v2 : IVec S_ 1 := (fun x v => Host.reduce IntOp.andi x v reducesTo_S100000_S_d0 h_S_) main_v1 main_c_0
  let main_c_1 : IVec S_ 32 := constantI S_ 32 128#32
  let main_v3 : IVec S100000 32 := broadcastInDim S100000 ![] bcast_S_S100000 main_c_1
  let main_v4 : IVec S100000 1 := cmpi .slt main_arg1 main_v3
  let main_c_2 : IVec S_ 1 := constantI S_ 1 1#1
  let main_v5 : IVec S_ 1 := (fun x v => Host.reduce IntOp.andi x v reducesTo_S100000_S_d0 h_S_) main_v4 main_c_2
  let main_v6 : IVec S_ 1 := andi main_v2 main_v5
  main_v6
-- ==== Pre_sorted_batch.lean ====
abbrev S100000x128 : Shape := ⟨2, ![100000, 128]⟩
abbrev S100000 : Shape := ⟨1, ![100000]⟩
abbrev S_ : Shape := ⟨0, ![]⟩
abbrev S99999 : Shape := ⟨1, ![99999]⟩

class Facts : Prop where
  bcast_S_S100000 : S_.BroadcastsInDim S100000 (![] : Fin 0 → Fin S100000.rank)
  reducesTo_S100000_S_d0 : S100000.ReducesTo [0] S_
  h_S_ : 0 < S_.numel
  slices_S100000_S99999_1 : S100000.Slices ![1] S99999
  slices_S100000_S99999_0 : S100000.Slices ![0] S99999
  reducesTo_S99999_S_d0 : S99999.ReducesTo [0] S_

variable [Facts]

def fn {F : FTy → Type} [FloatOps F] (main_arg0 : FVec F S100000x128 .f32) (main_arg1 : IVec S100000 32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 1 := constantI S_ 1 1#1
  let main_v2 : IVec S_ 1 := (fun x v => Host.reduce IntOp.andi x v reducesTo_S100000_S_d0 h_S_) main_v1 main_c_0
  let main_c_1 : IVec S_ 32 := constantI S_ 32 128#32
  let main_v3 : IVec S100000 32 := broadcastInDim S100000 ![] bcast_S_S100000 main_c_1
  let main_v4 : IVec S100000 1 := cmpi .slt main_arg1 main_v3
  let main_c_2 : IVec S_ 1 := constantI S_ 1 1#1
  let main_v5 : IVec S_ 1 := (fun x v => Host.reduce IntOp.andi x v reducesTo_S100000_S_d0 h_S_) main_v4 main_c_2
  let main_v6 : IVec S_ 1 := andi main_v2 main_v5
  let main_v7 : IVec S99999 32 := (extractStridedSlice S99999 ![1] · slices_S100000_S99999_1) main_arg1
  let main_v8 : IVec S99999 32 := (extractStridedSlice S99999 ![0] · slices_S100000_S99999_0) main_arg1
  let main_v9 : IVec S99999 1 := cmpi .sge main_v7 main_v8
  let main_c_3 : IVec S_ 1 := constantI S_ 1 1#1
  let main_v10 : IVec S_ 1 := (fun x v => Host.reduce IntOp.andi x v reducesTo_S99999_S_d0 h_S_) main_v9 main_c_3
  let main_v11 : IVec S_ 1 := andi main_v6 main_v10
  main_v11
-- ==== Kernel.lean ====
abbrev S100000x128 : Shape := ⟨2, ![100000, 128]⟩
abbrev S100000 : Shape := ⟨1, ![100000]⟩
abbrev S32x128x128 : Shape := ⟨3, ![32, 128, 128]⟩
abbrev S32x128x16 : Shape := ⟨3, ![32, 128, 16]⟩
abbrev S200x128 : Shape := ⟨2, ![200, 128]⟩
abbrev S200 : Shape := ⟨1, ![200]⟩
abbrev S128x128 : Shape := ⟨2, ![128, 128]⟩
abbrev S128x16 : Shape := ⟨2, ![128, 16]⟩
abbrev S16 : Shape := ⟨1, ![16]⟩
abbrev S1x16 : Shape := ⟨2, ![1, 16]⟩
abbrev S_ : Shape := ⟨0, ![]⟩
abbrev S1x128x128 : Shape := ⟨3, ![1, 128, 128]⟩
abbrev S1x128x16 : Shape := ⟨3, ![1, 128, 16]⟩
abbrev S128x256 : Shape := ⟨2, ![128, 256]⟩
abbrev S128x1 : Shape := ⟨2, ![128, 1]⟩

abbrev nBuf : Table → Nat
  | .hbm => 6
  | .local .tc .vmem => 4
  | .local .scVector .vmem => 5
  | _ => 0

abbrev bufTy : (tb : Table) → Fin (nBuf tb) → BufTy
  | .hbm, ⟨0, _⟩ => ⟨S100000x128, .f32⟩
  | .hbm, ⟨1, _⟩ => ⟨S100000, .i32⟩
  | .hbm, ⟨2, _⟩ => ⟨S32x128x128, .f32⟩
  | .hbm, ⟨3, _⟩ => ⟨S32x128x128, .f32⟩
  | .hbm, ⟨4, _⟩ => ⟨S32x128x16, .f32⟩
  | .hbm, ⟨5, _⟩ => ⟨S128x256, .f32⟩
  | .local .tc .vmem, ⟨0, _⟩ => ⟨S32x128x128, .f32⟩
  | .local .tc .vmem, ⟨1, _⟩ => ⟨S32x128x128, .f32⟩
  | .local .tc .vmem, ⟨2, _⟩ => ⟨S32x128x16, .f32⟩
  | .local .tc .vmem, ⟨3, _⟩ => ⟨S128x256, .f32⟩
  | .local .scVector .vmem, ⟨0, _⟩ => ⟨S200x128, .f32⟩
  | .local .scVector .vmem, ⟨1, _⟩ => ⟨S200, .i32⟩
  | .local .scVector .vmem, ⟨2, _⟩ => ⟨S128x128, .f32⟩
  | .local .scVector .vmem, ⟨3, _⟩ => ⟨S128x128, .f32⟩
  | .local .scVector .vmem, ⟨4, _⟩ => ⟨S128x16, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 2, rfl⟩
abbrev main_v0_1_scv : Ref sig .scVector := ⟨.hbm, 3, rfl⟩
abbrev main_v0_2_scv : Ref sig .scVector := ⟨.hbm, 4, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 7
abbrev cc1_sem1_0 : DmaSem sig := 8
abbrev cc1_sem2_0 : DmaSem sig := 9
abbrev cc1_sem3_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c128_i32 : BitVec 32 := 128#32
  let v5 : BitVec 32 := Scalar.addi c0_i32_1 c128_i32
  let c1_i32 : BitVec 32 := 1#32
  ⟨c0_i32_1, v5, c1_i32⟩
def k0_off1 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v22 : Index := Scalar.indexCast arg12
  let c0 : Index := 0#32
  ![v22.toNat, 0]
def k0_off2 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v30 : Index := Scalar.indexCast arg12
  let c16 : Index := 16#32
  ![v30.toNat, 16]
def k0_off3 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v38 : Index := Scalar.indexCast arg12
  let c32 : Index := 32#32
  ![v38.toNat, 32]
def k0_off4 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v46 : Index := Scalar.indexCast arg12
  let c48 : Index := 48#32
  ![v46.toNat, 48]
def k0_off5 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v54 : Index := Scalar.indexCast arg12
  let c64 : Index := 64#32
  ![v54.toNat, 64]
def k0_off6 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v62 : Index := Scalar.indexCast arg12
  let c80 : Index := 80#32
  ![v62.toNat, 80]
def k0_off7 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v70 : Index := Scalar.indexCast arg12
  let c96 : Index := 96#32
  ![v70.toNat, 96]
def k0_off8 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v78 : Index := Scalar.indexCast arg12
  let c112 : Index := 112#32
  ![v78.toNat, 112]
def k0_off9 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v86 : Index := Scalar.indexCast arg12
  let c0_16 : Index := 0#32
  ![v86.toNat, 0]
@[reducible] def k0_t2_loop (i : grid0.Coords) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32 : BitVec 32 := 15#32
  let v7 : BitVec 32 := Scalar.muli v1 c15_i32
  let c20_i32 : BitVec 32 := 20#32
  let v8 : BitVec 32 := Scalar.minsi v1 c20_i32
  let v9 : BitVec 32 := Scalar.addi v7 v8
  let c15_i32_3 : BitVec 32 := 15#32
  let v10 : BitVec 32 := Scalar.addi v9 c15_i32_3
  let c20_i32_4 : BitVec 32 := 20#32
  let v11 : BitVec 1 := Scalar.cmpi .slt v1 c20_i32_4
  let v12 : BitVec 32 := Scalar.extui v11
  let v13 : BitVec 32 := Scalar.addi v10 v12
  let v15 : BitVec 32 := Scalar.subi v13 v9
  let c1_i32_5 : BitVec 32 := 1#32
  let v17 : BitVec 32 := Scalar.divsi v15 c1_i32_5
  let v18 : BitVec 32 := Scalar.muli v17 c1_i32_5
  let v19 : BitVec 32 := Scalar.addi v9 v18
  let c1_i32_6 : BitVec 32 := 1#32
  ⟨v9, v19, c1_i32_6⟩
def k0_off10 (i : grid0.Coords) (k0_t2 : Fin (k0_t2_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32 : BitVec 32 := 15#32
  let v7 : BitVec 32 := Scalar.muli v1 c15_i32
  let c20_i32 : BitVec 32 := 20#32
  let v8 : BitVec 32 := Scalar.minsi v1 c20_i32
  let v9 : BitVec 32 := Scalar.addi v7 v8
  let c1_i32_6 : BitVec 32 := 1#32
  let arg12 : BitVec 32 := Scf.iv v9 c1_i32_6 k0_t2
  let c200_i32 : BitVec 32 := 200#32
  let v22 : BitVec 32 := Scalar.muli arg12 c200_i32
  let c0_i32_13_r0 : BitVec 32 := 0#32
  ![v22.toNat, 0]
def k0_off11 (i : grid0.Coords) (k0_t2 : Fin (k0_t2_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32 : BitVec 32 := 15#32
  let v7 : BitVec 32 := Scalar.muli v1 c15_i32
  let c20_i32 : BitVec 32 := 20#32
  let v8 : BitVec 32 := Scalar.minsi v1 c20_i32
  let v9 : BitVec 32 := Scalar.addi v7 v8
  let c1_i32_6 : BitVec 32 := 1#32
  let arg12 : BitVec 32 := Scf.iv v9 c1_i32_6 k0_t2
  let c200_i32_8 : BitVec 32 := 200#32
  let v23 : BitVec 32 := Scalar.muli arg12 c200_i32_8
  ![v23.toNat]
@[reducible] def k0_t3_loop : Scf.Loop 32 :=
  let c0_i32_9 : BitVec 32 := 0#32
  let c200_i32_10 : BitVec 32 := 200#32
  let v24 : BitVec 32 := Scalar.addi c0_i32_9 c200_i32_10
  let c1_i32_11 : BitVec 32 := 1#32
  ⟨c0_i32_9, v24, c1_i32_11⟩

def k0_chk1 (v26 : IVec S16 32) : Prop :=
  (∀ a x, ((![v26] : Fin 1 → IVec S16 32) a x).toNat < S200.size a)
theorem k0_idx1_inb : ∀ (v26 : IVec S16 32) (k0_hw1 : k0_chk1 v26), ∀ a x, ((![v26] : Fin 1 → IVec S16 32) a x).toNat < S200.size a := fun v26 k0_hw1 => k0_hw1
def k0_off12 (k0_t3 : Fin k0_t3_loop.trips) : Fin 2 → Nat :=
  let c0_i32_9 : BitVec 32 := 0#32
  let c1_i32_11 : BitVec 32 := 1#32
  let arg31 : BitVec 32 := Scf.iv c0_i32_9 c1_i32_11 k0_t3
  let v29 : Index := Scalar.indexCast arg31
  let c0 : Index := 0#32
  ![v29.toNat, 0]

def k0_chk2 (v27 : IVec S16 32) (v37 : IVec S16 32) : Prop :=
  (∀ a x, ((![v27, v37] : Fin 2 → IVec S16 32) a x).toNat < S128x128.size a) ∧
  (∀ a x, ((![v27, v37] : Fin 2 → IVec S16 32) a x).toNat < S128x128.size a)
theorem k0_idx2_inb : ∀ (v27 : IVec S16 32) (v37 : IVec S16 32) (k0_hw2 : k0_chk2 v27 v37), ∀ a x, ((![v27, v37] : Fin 2 → IVec S16 32) a x).toNat < S128x128.size a := fun v27 v37 k0_hw2 => k0_hw2.1
theorem k0_idx3_inb : ∀ (v27 : IVec S16 32) (v37 : IVec S16 32) (k0_hw2 : k0_chk2 v27 v37), ∀ a x, ((![v27, v37] : Fin 2 → IVec S16 32) a x).toNat < S128x128.size a := fun v27 v37 k0_hw2 => k0_hw2.2
def k0_off13 (k0_t3 : Fin k0_t3_loop.trips) : Fin 2 → Nat :=
  let c0_i32_9 : BitVec 32 := 0#32
  let c1_i32_11 : BitVec 32 := 1#32
  let arg31 : BitVec 32 := Scf.iv c0_i32_9 c1_i32_11 k0_t3
  let v38 : Index := Scalar.indexCast arg31
  let c16 : Index := 16#32
  ![v38.toNat, 16]

def k0_chk3 (v27 : IVec S16 32) (v46 : IVec S16 32) : Prop :=
  (∀ a x, ((![v27, v46] : Fin 2 → IVec S16 32) a x).toNat < S128x128.size a) ∧
  (∀ a x, ((![v27, v46] : Fin 2 → IVec S16 32) a x).toNat < S128x128.size a)
theorem k0_idx4_inb : ∀ (v27 : IVec S16 32) (v46 : IVec S16 32) (k0_hw3 : k0_chk3 v27 v46), ∀ a x, ((![v27, v46] : Fin 2 → IVec S16 32) a x).toNat < S128x128.size a := fun v27 v46 k0_hw3 => k0_hw3.1
theorem k0_idx5_inb : ∀ (v27 : IVec S16 32) (v46 : IVec S16 32) (k0_hw3 : k0_chk3 v27 v46), ∀ a x, ((![v27, v46] : Fin 2 → IVec S16 32) a x).toNat < S128x128.size a := fun v27 v46 k0_hw3 => k0_hw3.2
def k0_off14 (k0_t3 : Fin k0_t3_loop.trips) : Fin 2 → Nat :=
  let c0_i32_9 : BitVec 32 := 0#32
  let c1_i32_11 : BitVec 32 := 1#32
  let arg31 : BitVec 32 := Scf.iv c0_i32_9 c1_i32_11 k0_t3
  let v47 : Index := Scalar.indexCast arg31
  let c32 : Index := 32#32
  ![v47.toNat, 32]

def k0_chk4 (v27 : IVec S16 32) (v55 : IVec S16 32) : Prop :=
  (∀ a x, ((![v27, v55] : Fin 2 → IVec S16 32) a x).toNat < S128x128.size a) ∧
  (∀ a x, ((![v27, v55] : Fin 2 → IVec S16 32) a x).toNat < S128x128.size a)
theorem k0_idx6_inb : ∀ (v27 : IVec S16 32) (v55 : IVec S16 32) (k0_hw4 : k0_chk4 v27 v55), ∀ a x, ((![v27, v55] : Fin 2 → IVec S16 32) a x).toNat < S128x128.size a := fun v27 v55 k0_hw4 => k0_hw4.1
theorem k0_idx7_inb : ∀ (v27 : IVec S16 32) (v55 : IVec S16 32) (k0_hw4 : k0_chk4 v27 v55), ∀ a x, ((![v27, v55] : Fin 2 → IVec S16 32) a x).toNat < S128x128.size a := fun v27 v55 k0_hw4 => k0_hw4.2
def k0_off15 (k0_t3 : Fin k0_t3_loop.trips) : Fin 2 → Nat :=
  let c0_i32_9 : BitVec 32 := 0#32
  let c1_i32_11 : BitVec 32 := 1#32
  let arg31 : BitVec 32 := Scf.iv c0_i32_9 c1_i32_11 k0_t3
  let v56 : Index := Scalar.indexCast arg31
  let c48 : Index := 48#32
  ![v56.toNat, 48]

def k0_chk5 (v27 : IVec S16 32) (v64 : IVec S16 32) : Prop :=
  (∀ a x, ((![v27, v64] : Fin 2 → IVec S16 32) a x).toNat < S128x128.size a) ∧
  (∀ a x, ((![v27, v64] : Fin 2 → IVec S16 32) a x).toNat < S128x128.size a)
theorem k0_idx8_inb : ∀ (v27 : IVec S16 32) (v64 : IVec S16 32) (k0_hw5 : k0_chk5 v27 v64), ∀ a x, ((![v27, v64] : Fin 2 → IVec S16 32) a x).toNat < S128x128.size a := fun v27 v64 k0_hw5 => k0_hw5.1
theorem k0_idx9_inb : ∀ (v27 : IVec S16 32) (v64 : IVec S16 32) (k0_hw5 : k0_chk5 v27 v64), ∀ a x, ((![v27, v64] : Fin 2 → IVec S16 32) a x).toNat < S128x128.size a := fun v27 v64 k0_hw5 => k0_hw5.2
def k0_off16 (k0_t3 : Fin k0_t3_loop.trips) : Fin 2 → Nat :=
  let c0_i32_9 : BitVec 32 := 0#32
  let c1_i32_11 : BitVec 32 := 1#32
  let arg31 : BitVec 32 := Scf.iv c0_i32_9 c1_i32_11 k0_t3
  let v65 : Index := Scalar.indexCast arg31
  let c64 : Index := 64#32
  ![v65.toNat, 64]

def k0_chk6 (v27 : IVec S16 32) (v73 : IVec S16 32) : Prop :=
  (∀ a x, ((![v27, v73] : Fin 2 → IVec S16 32) a x).toNat < S128x128.size a) ∧
  (∀ a x, ((![v27, v73] : Fin 2 → IVec S16 32) a x).toNat < S128x128.size a)
theorem k0_idx10_inb : ∀ (v27 : IVec S16 32) (v73 : IVec S16 32) (k0_hw6 : k0_chk6 v27 v73), ∀ a x, ((![v27, v73] : Fin 2 → IVec S16 32) a x).toNat < S128x128.size a := fun v27 v73 k0_hw6 => k0_hw6.1
theorem k0_idx11_inb : ∀ (v27 : IVec S16 32) (v73 : IVec S16 32) (k0_hw6 : k0_chk6 v27 v73), ∀ a x, ((![v27, v73] : Fin 2 → IVec S16 32) a x).toNat < S128x128.size a := fun v27 v73 k0_hw6 => k0_hw6.2
def k0_off17 (k0_t3 : Fin k0_t3_loop.trips) : Fin 2 → Nat :=
  let c0_i32_9 : BitVec 32 := 0#32
  let c1_i32_11 : BitVec 32 := 1#32
  let arg31 : BitVec 32 := Scf.iv c0_i32_9 c1_i32_11 k0_t3
  let v74 : Index := Scalar.indexCast arg31
  let c80 : Index := 80#32
  ![v74.toNat, 80]

def k0_chk7 (v27 : IVec S16 32) (v82 : IVec S16 32) : Prop :=
  (∀ a x, ((![v27, v82] : Fin 2 → IVec S16 32) a x).toNat < S128x128.size a) ∧
  (∀ a x, ((![v27, v82] : Fin 2 → IVec S16 32) a x).toNat < S128x128.size a)
theorem k0_idx12_inb : ∀ (v27 : IVec S16 32) (v82 : IVec S16 32) (k0_hw7 : k0_chk7 v27 v82), ∀ a x, ((![v27, v82] : Fin 2 → IVec S16 32) a x).toNat < S128x128.size a := fun v27 v82 k0_hw7 => k0_hw7.1
theorem k0_idx13_inb : ∀ (v27 : IVec S16 32) (v82 : IVec S16 32) (k0_hw7 : k0_chk7 v27 v82), ∀ a x, ((![v27, v82] : Fin 2 → IVec S16 32) a x).toNat < S128x128.size a := fun v27 v82 k0_hw7 => k0_hw7.2
def k0_off18 (k0_t3 : Fin k0_t3_loop.trips) : Fin 2 → Nat :=
  let c0_i32_9 : BitVec 32 := 0#32
  let c1_i32_11 : BitVec 32 := 1#32
  let arg31 : BitVec 32 := Scf.iv c0_i32_9 c1_i32_11 k0_t3
  let v83 : Index := Scalar.indexCast arg31
  let c96 : Index := 96#32
  ![v83.toNat, 96]

def k0_chk8 (v27 : IVec S16 32) (v91 : IVec S16 32) : Prop :=
  (∀ a x, ((![v27, v91] : Fin 2 → IVec S16 32) a x).toNat < S128x128.size a) ∧
  (∀ a x, ((![v27, v91] : Fin 2 → IVec S16 32) a x).toNat < S128x128.size a)
theorem k0_idx14_inb : ∀ (v27 : IVec S16 32) (v91 : IVec S16 32) (k0_hw8 : k0_chk8 v27 v91), ∀ a x, ((![v27, v91] : Fin 2 → IVec S16 32) a x).toNat < S128x128.size a := fun v27 v91 k0_hw8 => k0_hw8.1
theorem k0_idx15_inb : ∀ (v27 : IVec S16 32) (v91 : IVec S16 32) (k0_hw8 : k0_chk8 v27 v91), ∀ a x, ((![v27, v91] : Fin 2 → IVec S16 32) a x).toNat < S128x128.size a := fun v27 v91 k0_hw8 => k0_hw8.2
def k0_off19 (k0_t3 : Fin k0_t3_loop.trips) : Fin 2 → Nat :=
  let c0_i32_9 : BitVec 32 := 0#32
  let c1_i32_11 : BitVec 32 := 1#32
  let arg31 : BitVec 32 := Scf.iv c0_i32_9 c1_i32_11 k0_t3
  let v92 : Index := Scalar.indexCast arg31
  let c112 : Index := 112#32
  ![v92.toNat, 112]

def k0_chk9 (v27 : IVec S16 32) (v100 : IVec S16 32) : Prop :=
  (∀ a x, ((![v27, v100] : Fin 2 → IVec S16 32) a x).toNat < S128x128.size a) ∧
  (∀ a x, ((![v27, v100] : Fin 2 → IVec S16 32) a x).toNat < S128x128.size a)
theorem k0_idx16_inb : ∀ (v27 : IVec S16 32) (v100 : IVec S16 32) (k0_hw9 : k0_chk9 v27 v100), ∀ a x, ((![v27, v100] : Fin 2 → IVec S16 32) a x).toNat < S128x128.size a := fun v27 v100 k0_hw9 => k0_hw9.1
theorem k0_idx17_inb : ∀ (v27 : IVec S16 32) (v100 : IVec S16 32) (k0_hw9 : k0_chk9 v27 v100), ∀ a x, ((![v27, v100] : Fin 2 → IVec S16 32) a x).toNat < S128x128.size a := fun v27 v100 k0_hw9 => k0_hw9.2

def k0_chk10 (v2 : IVec S16 32) (v27 : IVec S16 32) : Prop :=
  (∀ a x, ((![v27, v2] : Fin 2 → IVec S16 32) a x).toNat < S128x16.size a)
theorem k0_idx18_inb : ∀ (v2 : IVec S16 32) (v27 : IVec S16 32) (k0_hw10 : k0_chk10 v2 v27), ∀ a x, ((![v27, v2] : Fin 2 → IVec S16 32) a x).toNat < S128x16.size a := fun v2 v27 k0_hw10 => k0_hw10
@[reducible] def k0_t4_loop (i : grid0.Coords) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32 : BitVec 32 := 15#32
  let v7 : BitVec 32 := Scalar.muli v1 c15_i32
  let c20_i32 : BitVec 32 := 20#32
  let v8 : BitVec 32 := Scalar.minsi v1 c20_i32
  let v9 : BitVec 32 := Scalar.addi v7 v8
  let c15_i32_3 : BitVec 32 := 15#32
  let v10 : BitVec 32 := Scalar.addi v9 c15_i32_3
  let c20_i32_4 : BitVec 32 := 20#32
  let v11 : BitVec 1 := Scalar.cmpi .slt v1 c20_i32_4
  let v12 : BitVec 32 := Scalar.extui v11
  let v13 : BitVec 32 := Scalar.addi v10 v12
  let v15 : BitVec 32 := Scalar.subi v13 v9
  let c1_i32_5 : BitVec 32 := 1#32
  let v17 : BitVec 32 := Scalar.divsi v15 c1_i32_5
  let v18 : BitVec 32 := Scalar.muli v17 c1_i32_5
  let v19 : BitVec 32 := Scalar.addi v9 v18
  let v16 : BitVec 32 := Scalar.addi v9 v15
  let c1_i32_7 : BitVec 32 := 1#32
  ⟨v19, v16, c1_i32_7⟩
def k0_off20 (i : grid0.Coords) (k0_t4 : Fin (k0_t4_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32 : BitVec 32 := 15#32
  let v7 : BitVec 32 := Scalar.muli v1 c15_i32
  let c20_i32 : BitVec 32 := 20#32
  let v8 : BitVec 32 := Scalar.minsi v1 c20_i32
  let v9 : BitVec 32 := Scalar.addi v7 v8
  let c15_i32_3 : BitVec 32 := 15#32
  let v10 : BitVec 32 := Scalar.addi v9 c15_i32_3
  let c20_i32_4 : BitVec 32 := 20#32
  let v11 : BitVec 1 := Scalar.cmpi .slt v1 c20_i32_4
  let v12 : BitVec 32 := Scalar.extui v11
  let v13 : BitVec 32 := Scalar.addi v10 v12
  let v15 : BitVec 32 := Scalar.subi v13 v9
  let c1_i32_5 : BitVec 32 := 1#32
  let v17 : BitVec 32 := Scalar.divsi v15 c1_i32_5
  let v18 : BitVec 32 := Scalar.muli v17 c1_i32_5
  let v19 : BitVec 32 := Scalar.addi v9 v18
  let c1_i32_7 : BitVec 32 := 1#32
  let arg12 : BitVec 32 := Scf.iv v19 c1_i32_7 k0_t4
  let c200_i32 : BitVec 32 := 200#32
  let v22 : BitVec 32 := Scalar.muli arg12 c200_i32
  let c0_i32_13_r2 : BitVec 32 := 0#32
  ![v22.toNat, 0]
def k0_off21 (i : grid0.Coords) (k0_t4 : Fin (k0_t4_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32 : BitVec 32 := 15#32
  let v7 : BitVec 32 := Scalar.muli v1 c15_i32
  let c20_i32 : BitVec 32 := 20#32
  let v8 : BitVec 32 := Scalar.minsi v1 c20_i32
  let v9 : BitVec 32 := Scalar.addi v7 v8
  let c15_i32_3 : BitVec 32 := 15#32
  let v10 : BitVec 32 := Scalar.addi v9 c15_i32_3
  let c20_i32_4 : BitVec 32 := 20#32
  let v11 : BitVec 1 := Scalar.cmpi .slt v1 c20_i32_4
  let v12 : BitVec 32 := Scalar.extui v11
  let v13 : BitVec 32 := Scalar.addi v10 v12
  let v15 : BitVec 32 := Scalar.subi v13 v9
  let c1_i32_5 : BitVec 32 := 1#32
  let v17 : BitVec 32 := Scalar.divsi v15 c1_i32_5
  let v18 : BitVec 32 := Scalar.muli v17 c1_i32_5
  let v19 : BitVec 32 := Scalar.addi v9 v18
  let c1_i32_7 : BitVec 32 := 1#32
  let arg12 : BitVec 32 := Scf.iv v19 c1_i32_7 k0_t4
  let c200_i32_8 : BitVec 32 := 200#32
  let v23 : BitVec 32 := Scalar.muli arg12 c200_i32_8
  ![v23.toNat]
@[reducible] def k0_t5_loop : Scf.Loop 32 :=
  let c0_i32_9 : BitVec 32 := 0#32
  let c200_i32_10 : BitVec 32 := 200#32
  let v24 : BitVec 32 := Scalar.addi c0_i32_9 c200_i32_10
  let c1_i32_11 : BitVec 32 := 1#32
  ⟨c0_i32_9, v24, c1_i32_11⟩

def k0_chk11 (i : grid0.Coords) (k0_t4 : Fin (k0_t4_loop i).trips) (v26 : IVec S16 32) : Prop :=
  (∀ a x, ((![v26] : Fin 1 → IVec S16 32) a x).toNat < S200.size a)
theorem k0_idx19_inb : ∀ (i : grid0.Coords) (k0_t4 : Fin (k0_t4_loop i).trips) (v26 : IVec S16 32) (k0_hw11 : k0_chk11 i k0_t4 v26), ∀ a x, ((![v26] : Fin 1 → IVec S16 32) a x).toNat < S200.size a := fun i k0_t4 v26 k0_hw11 => k0_hw11
def k0_off22 (k0_t5 : Fin k0_t5_loop.trips) : Fin 2 → Nat :=
  let c0_i32_9 : BitVec 32 := 0#32
  let c1_i32_11 : BitVec 32 := 1#32
  let arg31 : BitVec 32 := Scf.iv c0_i32_9 c1_i32_11 k0_t5
  let v29 : Index := Scalar.indexCast arg31
  let c0 : Index := 0#32
  ![v29.toNat, 0]

def k0_chk12 (i : grid0.Coords) (k0_t4 : Fin (k0_t4_loop i).trips) (v27 : IVec S16 32) (v37 : IVec S16 32) : Prop :=
  (∀ a x, ((![v27, v37] : Fin 2 → IVec S16 32) a x).toNat < S128x128.size a) ∧
  (∀ a x, ((![v27, v37] : Fin 2 → IVec S16 32) a x).toNat < S128x128.size a)
theorem k0_idx20_inb : ∀ (i : grid0.Coords) (k0_t4 : Fin (k0_t4_loop i).trips) (v27 : IVec S16 32) (v37 : IVec S16 32) (k0_hw12 : k0_chk12 i k0_t4 v27 v37), ∀ a x, ((![v27, v37] : Fin 2 → IVec S16 32) a x).toNat < S128x128.size a := fun i k0_t4 v27 v37 k0_hw12 => k0_hw12.1
theorem k0_idx21_inb : ∀ (i : grid0.Coords) (k0_t4 : Fin (k0_t4_loop i).trips) (v27 : IVec S16 32) (v37 : IVec S16 32) (k0_hw12 : k0_chk12 i k0_t4 v27 v37), ∀ a x, ((![v27, v37] : Fin 2 → IVec S16 32) a x).toNat < S128x128.size a := fun i k0_t4 v27 v37 k0_hw12 => k0_hw12.2
def k0_off23 (k0_t5 : Fin k0_t5_loop.trips) : Fin 2 → Nat :=
  let c0_i32_9 : BitVec 32 := 0#32
  let c1_i32_11 : BitVec 32 := 1#32
  let arg31 : BitVec 32 := Scf.iv c0_i32_9 c1_i32_11 k0_t5
  let v38 : Index := Scalar.indexCast arg31
  let c16 : Index := 16#32
  ![v38.toNat, 16]

def k0_chk13 (i : grid0.Coords) (k0_t4 : Fin (k0_t4_loop i).trips) (v27 : IVec S16 32) (v46 : IVec S16 32) : Prop :=
  (∀ a x, ((![v27, v46] : Fin 2 → IVec S16 32) a x).toNat < S128x128.size a) ∧
  (∀ a x, ((![v27, v46] : Fin 2 → IVec S16 32) a x).toNat < S128x128.size a)
theorem k0_idx22_inb : ∀ (i : grid0.Coords) (k0_t4 : Fin (k0_t4_loop i).trips) (v27 : IVec S16 32) (v46 : IVec S16 32) (k0_hw13 : k0_chk13 i k0_t4 v27 v46), ∀ a x, ((![v27, v46] : Fin 2 → IVec S16 32) a x).toNat < S128x128.size a := fun i k0_t4 v27 v46 k0_hw13 => k0_hw13.1
theorem k0_idx23_inb : ∀ (i : grid0.Coords) (k0_t4 : Fin (k0_t4_loop i).trips) (v27 : IVec S16 32) (v46 : IVec S16 32) (k0_hw13 : k0_chk13 i k0_t4 v27 v46), ∀ a x, ((![v27, v46] : Fin 2 → IVec S16 32) a x).toNat < S128x128.size a := fun i k0_t4 v27 v46 k0_hw13 => k0_hw13.2
def k0_off24 (k0_t5 : Fin k0_t5_loop.trips) : Fin 2 → Nat :=
  let c0_i32_9 : BitVec 32 := 0#32
  let c1_i32_11 : BitVec 32 := 1#32
  let arg31 : BitVec 32 := Scf.iv c0_i32_9 c1_i32_11 k0_t5
  let v47 : Index := Scalar.indexCast arg31
  let c32 : Index := 32#32
  ![v47.toNat, 32]

def k0_chk14 (i : grid0.Coords) (k0_t4 : Fin (k0_t4_loop i).trips) (v27 : IVec S16 32) (v55 : IVec S16 32) : Prop :=
  (∀ a x, ((![v27, v55] : Fin 2 → IVec S16 32) a x).toNat < S128x128.size a) ∧
  (∀ a x, ((![v27, v55] : Fin 2 → IVec S16 32) a x).toNat < S128x128.size a)
theorem k0_idx24_inb : ∀ (i : grid0.Coords) (k0_t4 : Fin (k0_t4_loop i).trips) (v27 : IVec S16 32) (v55 : IVec S16 32) (k0_hw14 : k0_chk14 i k0_t4 v27 v55), ∀ a x, ((![v27, v55] : Fin 2 → IVec S16 32) a x).toNat < S128x128.size a := fun i k0_t4 v27 v55 k0_hw14 => k0_hw14.1
theorem k0_idx25_inb : ∀ (i : grid0.Coords) (k0_t4 : Fin (k0_t4_loop i).trips) (v27 : IVec S16 32) (v55 : IVec S16 32) (k0_hw14 : k0_chk14 i k0_t4 v27 v55), ∀ a x, ((![v27, v55] : Fin 2 → IVec S16 32) a x).toNat < S128x128.size a := fun i k0_t4 v27 v55 k0_hw14 => k0_hw14.2
def k0_off25 (k0_t5 : Fin k0_t5_loop.trips) : Fin 2 → Nat :=
  let c0_i32_9 : BitVec 32 := 0#32
  let c1_i32_11 : BitVec 32 := 1#32
  let arg31 : BitVec 32 := Scf.iv c0_i32_9 c1_i32_11 k0_t5
  let v56 : Index := Scalar.indexCast arg31
  let c48 : Index := 48#32
  ![v56.toNat, 48]

def k0_chk15 (i : grid0.Coords) (k0_t4 : Fin (k0_t4_loop i).trips) (v27 : IVec S16 32) (v64 : IVec S16 32) : Prop :=
  (∀ a x, ((![v27, v64] : Fin 2 → IVec S16 32) a x).toNat < S128x128.size a) ∧
  (∀ a x, ((![v27, v64] : Fin 2 → IVec S16 32) a x).toNat < S128x128.size a)
theorem k0_idx26_inb : ∀ (i : grid0.Coords) (k0_t4 : Fin (k0_t4_loop i).trips) (v27 : IVec S16 32) (v64 : IVec S16 32) (k0_hw15 : k0_chk15 i k0_t4 v27 v64), ∀ a x, ((![v27, v64] : Fin 2 → IVec S16 32) a x).toNat < S128x128.size a := fun i k0_t4 v27 v64 k0_hw15 => k0_hw15.1
theorem k0_idx27_inb : ∀ (i : grid0.Coords) (k0_t4 : Fin (k0_t4_loop i).trips) (v27 : IVec S16 32) (v64 : IVec S16 32) (k0_hw15 : k0_chk15 i k0_t4 v27 v64), ∀ a x, ((![v27, v64] : Fin 2 → IVec S16 32) a x).toNat < S128x128.size a := fun i k0_t4 v27 v64 k0_hw15 => k0_hw15.2
def k0_off26 (k0_t5 : Fin k0_t5_loop.trips) : Fin 2 → Nat :=
  let c0_i32_9 : BitVec 32 := 0#32
  let c1_i32_11 : BitVec 32 := 1#32
  let arg31 : BitVec 32 := Scf.iv c0_i32_9 c1_i32_11 k0_t5
  let v65 : Index := Scalar.indexCast arg31
  let c64 : Index := 64#32
  ![v65.toNat, 64]

def k0_chk16 (i : grid0.Coords) (k0_t4 : Fin (k0_t4_loop i).trips) (v27 : IVec S16 32) (v73 : IVec S16 32) : Prop :=
  (∀ a x, ((![v27, v73] : Fin 2 → IVec S16 32) a x).toNat < S128x128.size a) ∧
  (∀ a x, ((![v27, v73] : Fin 2 → IVec S16 32) a x).toNat < S128x128.size a)
theorem k0_idx28_inb : ∀ (i : grid0.Coords) (k0_t4 : Fin (k0_t4_loop i).trips) (v27 : IVec S16 32) (v73 : IVec S16 32) (k0_hw16 : k0_chk16 i k0_t4 v27 v73), ∀ a x, ((![v27, v73] : Fin 2 → IVec S16 32) a x).toNat < S128x128.size a := fun i k0_t4 v27 v73 k0_hw16 => k0_hw16.1
theorem k0_idx29_inb : ∀ (i : grid0.Coords) (k0_t4 : Fin (k0_t4_loop i).trips) (v27 : IVec S16 32) (v73 : IVec S16 32) (k0_hw16 : k0_chk16 i k0_t4 v27 v73), ∀ a x, ((![v27, v73] : Fin 2 → IVec S16 32) a x).toNat < S128x128.size a := fun i k0_t4 v27 v73 k0_hw16 => k0_hw16.2
def k0_off27 (k0_t5 : Fin k0_t5_loop.trips) : Fin 2 → Nat :=
  let c0_i32_9 : BitVec 32 := 0#32
  let c1_i32_11 : BitVec 32 := 1#32
  let arg31 : BitVec 32 := Scf.iv c0_i32_9 c1_i32_11 k0_t5
  let v74 : Index := Scalar.indexCast arg31
  let c80 : Index := 80#32
  ![v74.toNat, 80]

def k0_chk17 (i : grid0.Coords) (k0_t4 : Fin (k0_t4_loop i).trips) (v27 : IVec S16 32) (v82 : IVec S16 32) : Prop :=
  (∀ a x, ((![v27, v82] : Fin 2 → IVec S16 32) a x).toNat < S128x128.size a) ∧
  (∀ a x, ((![v27, v82] : Fin 2 → IVec S16 32) a x).toNat < S128x128.size a)
theorem k0_idx30_inb : ∀ (i : grid0.Coords) (k0_t4 : Fin (k0_t4_loop i).trips) (v27 : IVec S16 32) (v82 : IVec S16 32) (k0_hw17 : k0_chk17 i k0_t4 v27 v82), ∀ a x, ((![v27, v82] : Fin 2 → IVec S16 32) a x).toNat < S128x128.size a := fun i k0_t4 v27 v82 k0_hw17 => k0_hw17.1
theorem k0_idx31_inb : ∀ (i : grid0.Coords) (k0_t4 : Fin (k0_t4_loop i).trips) (v27 : IVec S16 32) (v82 : IVec S16 32) (k0_hw17 : k0_chk17 i k0_t4 v27 v82), ∀ a x, ((![v27, v82] : Fin 2 → IVec S16 32) a x).toNat < S128x128.size a := fun i k0_t4 v27 v82 k0_hw17 => k0_hw17.2
def k0_off28 (k0_t5 : Fin k0_t5_loop.trips) : Fin 2 → Nat :=
  let c0_i32_9 : BitVec 32 := 0#32
  let c1_i32_11 : BitVec 32 := 1#32
  let arg31 : BitVec 32 := Scf.iv c0_i32_9 c1_i32_11 k0_t5
  let v83 : Index := Scalar.indexCast arg31
  let c96 : Index := 96#32
  ![v83.toNat, 96]

def k0_chk18 (i : grid0.Coords) (k0_t4 : Fin (k0_t4_loop i).trips) (v27 : IVec S16 32) (v91 : IVec S16 32) : Prop :=
  (∀ a x, ((![v27, v91] : Fin 2 → IVec S16 32) a x).toNat < S128x128.size a) ∧
  (∀ a x, ((![v27, v91] : Fin 2 → IVec S16 32) a x).toNat < S128x128.size a)
theorem k0_idx32_inb : ∀ (i : grid0.Coords) (k0_t4 : Fin (k0_t4_loop i).trips) (v27 : IVec S16 32) (v91 : IVec S16 32) (k0_hw18 : k0_chk18 i k0_t4 v27 v91), ∀ a x, ((![v27, v91] : Fin 2 → IVec S16 32) a x).toNat < S128x128.size a := fun i k0_t4 v27 v91 k0_hw18 => k0_hw18.1
theorem k0_idx33_inb : ∀ (i : grid0.Coords) (k0_t4 : Fin (k0_t4_loop i).trips) (v27 : IVec S16 32) (v91 : IVec S16 32) (k0_hw18 : k0_chk18 i k0_t4 v27 v91), ∀ a x, ((![v27, v91] : Fin 2 → IVec S16 32) a x).toNat < S128x128.size a := fun i k0_t4 v27 v91 k0_hw18 => k0_hw18.2
def k0_off29 (k0_t5 : Fin k0_t5_loop.trips) : Fin 2 → Nat :=
  let c0_i32_9 : BitVec 32 := 0#32
  let c1_i32_11 : BitVec 32 := 1#32
  let arg31 : BitVec 32 := Scf.iv c0_i32_9 c1_i32_11 k0_t5
  let v92 : Index := Scalar.indexCast arg31
  let c112 : Index := 112#32
  ![v92.toNat, 112]

def k0_chk19 (i : grid0.Coords) (k0_t4 : Fin (k0_t4_loop i).trips) (v27 : IVec S16 32) (v100 : IVec S16 32) : Prop :=
  (∀ a x, ((![v27, v100] : Fin 2 → IVec S16 32) a x).toNat < S128x128.size a) ∧
  (∀ a x, ((![v27, v100] : Fin 2 → IVec S16 32) a x).toNat < S128x128.size a)
theorem k0_idx34_inb : ∀ (i : grid0.Coords) (k0_t4 : Fin (k0_t4_loop i).trips) (v27 : IVec S16 32) (v100 : IVec S16 32) (k0_hw19 : k0_chk19 i k0_t4 v27 v100), ∀ a x, ((![v27, v100] : Fin 2 → IVec S16 32) a x).toNat < S128x128.size a := fun i k0_t4 v27 v100 k0_hw19 => k0_hw19.1
theorem k0_idx35_inb : ∀ (i : grid0.Coords) (k0_t4 : Fin (k0_t4_loop i).trips) (v27 : IVec S16 32) (v100 : IVec S16 32) (k0_hw19 : k0_chk19 i k0_t4 v27 v100), ∀ a x, ((![v27, v100] : Fin 2 → IVec S16 32) a x).toNat < S128x128.size a := fun i k0_t4 v27 v100 k0_hw19 => k0_hw19.2

def k0_chk20 (i : grid0.Coords) (v2 : IVec S16 32) (k0_t4 : Fin (k0_t4_loop i).trips) (v27 : IVec S16 32) : Prop :=
  (∀ a x, ((![v27, v2] : Fin 2 → IVec S16 32) a x).toNat < S128x16.size a)
theorem k0_idx36_inb : ∀ (i : grid0.Coords) (v2 : IVec S16 32) (k0_t4 : Fin (k0_t4_loop i).trips) (v27 : IVec S16 32) (k0_hw20 : k0_chk20 i v2 k0_t4 v27), ∀ a x, ((![v27, v2] : Fin 2 → IVec S16 32) a x).toNat < S128x16.size a := fun i v2 k0_t4 v27 k0_hw20 => k0_hw20
def k0_off30 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_8_r4 : BitVec 32 := 0#32
  let c0_i32_9_r4 : BitVec 32 := 0#32
  ![v1.toNat, 0, 0]
def k0_off31 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_8_r6 : BitVec 32 := 0#32
  let c0_i32_9_r6 : BitVec 32 := 0#32
  ![v1.toNat, 0, 0]
abbrev grid1 : Pipeline.Grid := .none

abbrev stage1_0 : Fin 1 → Memref sig .tc .vmem S32x128x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S32x128x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S100000 : Shape := ⟨1, ![100000]⟩
abbrev S_ : Shape := ⟨0, ![]⟩
abbrev S128x128 : Shape := ⟨2, ![128, 128]⟩
abbrev S100000x1 : Shape := ⟨2, ![100000, 1]⟩
abbrev S128 : Shape := ⟨1, ![128]⟩
abbrev S128x1 : Shape := ⟨2, ![128, 1]⟩
abbrev S1x100000 : Shape := ⟨2, ![1, 100000]⟩
abbrev S128x100000 : Shape := ⟨2, ![128, 100000]⟩
abbrev S128x100000x1 : Shape := ⟨3, ![128, 100000, 1]⟩
abbrev S1x100000x128 : Shape := ⟨3, ![1, 100000, 128]⟩
abbrev S128x100000x128 : Shape := ⟨3, ![128, 100000, 128]⟩
abbrev S128x256 : Shape := ⟨2, ![128, 256]⟩

abbrev nBuf : Space → Nat
  | .hbm => 35
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S_, .f32⟩
  | .hbm, ⟨3, _⟩ => ⟨S128x128, .f32⟩
  | .hbm, ⟨4, _⟩ => ⟨S100000x1, .i32⟩
  | .hbm, ⟨5, _⟩ => ⟨S128x128, .f32⟩
  | .hbm, ⟨6, _⟩ => ⟨S_, .f32⟩
  | .hbm, ⟨7, _⟩ => ⟨S100000, .f32⟩
  | .hbm, ⟨8, _⟩ => ⟨S_, .f32⟩
  | .hbm, ⟨9, _⟩ => ⟨S128, .f32⟩
  | .hbm, ⟨10, _⟩ => ⟨S100000x1, .i32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S128x1, .f32⟩
  | .hbm, ⟨16, _⟩ => ⟨S128x128, .f32⟩
  | .hbm, ⟨17, _⟩ => ⟨S128x128, .f32⟩
  | .hbm, ⟨18, _⟩ => ⟨S1x100000, .i32⟩
  | .hbm, ⟨19, _⟩ => ⟨S128, .i32⟩
  | .hbm, ⟨20, _⟩ => ⟨S128x1, .i32⟩
  | .hbm, ⟨21, _⟩ => ⟨S128x100000, .i32⟩
  | .hbm, ⟨22, _⟩ => ⟨S128x100000, .i32⟩
  | .hbm, ⟨23, _⟩ => ⟨S128x100000, .i1⟩
  | .hbm, ⟨24, _⟩ => ⟨S128x100000x1, .i1⟩
  | .hbm, ⟨25, _⟩ => ⟨S1x100000x128, .f32⟩
  | .hbm, ⟨26, _⟩ => ⟨S_, .f32⟩
  | .hbm, ⟨27, _⟩ => ⟨S_, .f32⟩
  | .hbm, ⟨28, _⟩ => ⟨S128x100000x128, .i1⟩
  | .hbm, ⟨29, _⟩ => ⟨S128x100000x128, .f32⟩
  | .hbm, ⟨30, _⟩ => ⟨S128x100000x128, .f32⟩
  | .hbm, ⟨31, _⟩ => ⟨S128x100000x128, .f32⟩
  | .hbm, ⟨32, _⟩ => ⟨S_, .f32⟩
  | .hbm, ⟨33, _⟩ => ⟨S128x128, .f32⟩
  | .hbm, ⟨34, _⟩ => ⟨S128x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== Proof.Spec.lean ====
/-
  What one tile of the pooling kernel leaves in its three accumulators, as a recursion over the rows it reads: written
  for any float instance, and for neither program in particular.
-/
module

public import Idealize.ShloMosaic.PureOps.ShapeOps
public import Idealize.ShloMosaic.PureOps.Vector

@[expose] public section

noncomputable section

namespace Cert.Proof.Spec

open Idealize.ShloMosaic

variable {F : FTy → Type} [FloatOps F]

/-- The running state of a tile: the segment of the last row read, that segment's running sum and maximum of each column
    and its running count, and the three tables by segment. -/
structure St (F : FTy → Type) where
  prev : BitVec 32
  sv : Fin 128 → F .f32
  mv : Fin 128 → F .f32
  cv : F .f32
  A : ℕ → Fin 128 → F .f32
  M : ℕ → Fin 128 → F .f32
  C : ℕ → F .f32

abbrev zero : F .f32 := Scalar.ofBits .f32 0x00000000#32
abbrev ninf : F .f32 := Scalar.ofBits .f32 0xFF800000#32
abbrev one : F .f32 := Scalar.ofBits .f32 0x3F800000#32

/-- Before any row: no segment, the empty sum, maximum and count everywhere. -/
def St.init : St F :=
  ⟨4294967295#32, fun _ => zero, fun _ => ninf, zero, fun _ _ => zero, fun _ _ => ninf, fun _ => zero⟩

def St.sv' (s : St F) (b : BitVec 32) (x : Fin 128 → F .f32) : Fin 128 → F .f32 :=
  fun j => if b = s.prev then FloatOps.addf (s.sv j) (x j) else x j
def St.mv' (s : St F) (b : BitVec 32) (x : Fin 128 → F .f32) : Fin 128 → F .f32 :=
  fun j => if b = s.prev then FloatOps.maximumf (s.mv j) (x j) else x j
def St.cv' (s : St F) (b : BitVec 32) : F .f32 :=
  if b = s.prev then FloatOps.addf s.cv one else one

/-- One row: its segment's running values go on, or start again at this row, and are stored at the segment. -/
def St.step (s : St F) (b : BitVec 32) (x : Fin 128 → F .f32) : St F :=
  ⟨b, s.sv' b x, s.mv' b x, s.cv' b,
    fun g => if g = b.toNat then s.sv' b x else s.A g,
    fun g => if g = b.toNat then s.mv' b x else s.M g,
    fun g => if g = b.toNat then s.cv' b else s.C g⟩

/-- The state after `n` rows. -/
def run (b : ℕ → BitVec 32) (x : ℕ → Fin 128 → F .f32) : ℕ → St F
  | 0 => St.init
  | n + 1 => (run b x n).step (b n) (x n)

theorem run_congr {b b' : ℕ → BitVec 32} {x x' : ℕ → Fin 128 → F .f32} :
    ∀ {n : ℕ}, (∀ k < n, b k = b' k) → (∀ k < n, x k = x' k) → run b x n = run b' x' n
  | 0, _, _ => rfl
  | n + 1, hb, hx => by
    rw [run, run, run_congr (fun k hk => hb k (by omega)) (fun k hk => hx k (by omega)), hb n (by omega), hx n (by omega)]

/-! ## Sixteen lanes of a row -/

abbrev S16 : Shape := ⟨1, ![16]⟩
abbrev SR (n c : ℕ) : Shape := ⟨2, ![n, c]⟩

theorem lane_lt (i : S16.Idx) : (i 0).val < 16 := (i 0).isLt

/-- The `k`-th sixteen columns of a row. -/
def vec {α : Type} (k : Fin 8) (f : Fin 128 → α) : S16.Idx → α :=
  fun i => f ⟨16 * k.val + (i 0).val, by have := lane_lt i; omega⟩

/-- A row's columns `c ≤ j < c + 16` of row `b` replaced by the lanes of a vector. -/
def blk {α : Type} {n w : ℕ} (f : (SR n w).Idx → α) (b c : ℕ) (v : S16.Idx → α) : (SR n w).Idx → α :=
  fun j => if (j 0).val = b ∧ c ≤ (j 1).val ∧ (j 1).val < c + 16
    then v (Shape.ofLane (d := ![16]) ⟨((j 1).val - c) % 16, Nat.mod_lt _ (by decide)⟩) else f j

theorem foldl_set {α ι κ : Type} (P : κ → ι → Prop) [∀ j k, Decidable (P j k)] [DecidableEq ι] (v : ι → α) (κf : κ → ι) (j : κ)
    (hu : ∀ k, P j k → k = κf j) :
    ∀ (l : List ι) (f : κ → α),
      (l.foldl (fun g k => fun j => if P j k then v k else g j) f) j
        = if P j (κf j) ∧ κf j ∈ l then v (κf j) else f j
  | [], f => by simp only [List.foldl_nil, List.not_mem_nil, and_false, if_false]
  | k :: l, f => by
    rw [List.foldl_cons, foldl_set P v κf j hu l]
    by_cases hP : P j (κf j)
    · by_cases hm : κf j ∈ l
      · simp [hP, hm]
      · by_cases hk : κf j = k
        · subst hk; simp [hP, hm]
        · have hn : ¬ P j k := fun h => hk (hu k h).symm
          simp [hm, hk, hn]
    · have hn : ¬ P j k := fun h => hP (by rw [← hu k h]; exact h)
      simp [hP, hn]

/-- Storing sixteen lanes at one row and sixteen consecutive columns. -/
theorem storeIdx_row {n w : ℕ} (f : (SR n w).Idx → F .f32) (b : BitVec 32) (c : ℕ)
    (v : S16.Idx → F .f32) (i0 i1 : IVec S16 32) (h0 : ∀ x, i0 x = b) (h1 : ∀ x, (i1 x).toNat = c + (x 0).val)
    (h : ∀ a x, ((![i0, i1] : Fin 2 → IVec S16 32) a x).toNat < (SR n w).size a) :
    storeIdx (F := F) (s := SR n w) (e := .f32) f ![i0, i1] v (fun _ => 1#1) false h = blk f b.toNat c v := by
  funext j
  have e : storeIdx (F := F) (s := SR n w) (e := .f32) f ![i0, i1] v (fun _ => 1#1) false h
      = (List.finRange 16).foldl (fun g (k : Fin 16) => fun j => if ((j 0).val = b.toNat ∧ (j 1).val = c + k.val)
          then v ((fun k : Fin 16 => Shape.ofLane (d := ![16]) k) k) else g j) f := by
    unfold storeIdx
    refine congrArg (fun φ => List.foldl φ f (List.finRange 16)) ?_
    funext g k j
    simp only [if_true, Bool.false_eq_true, if_false]
    refine ite_congr (propext ?_) (fun _ => rfl) (fun _ => rfl)
    rw [Fin.forall_fin_two]
    refine and_congr ?_ ?_
    · show (j 0).val = (i0 _).toNat ↔ _
      rw [h0]
    · show (j 1).val = (i1 _).toNat ↔ _
      rw [h1]; exact Iff.rfl
  rw [e, foldl_set (fun (j : (SR n w).Idx) (k : Fin 16) => (j 0).val = b.toNat ∧ (j 1).val = c + k.val)
    (fun k : Fin 16 => v ((fun k : Fin 16 => Shape.ofLane (d := ![16]) k) k)) (fun j => ⟨((j 1).val - c) % 16, Nat.mod_lt _ (by decide)⟩) j
    (fun k hk => Fin.ext (by have := k.isLt; simp only; omega))]
  unfold blk
  refine ite_congr (propext ?_) (fun _ => rfl) (fun _ => rfl)
  simp only [List.mem_finRange, and_true]
  have := Nat.mod_lt ((j 1).val - c) (show 0 < 16 by decide)
  constructor
  · rintro ⟨h, h'⟩; exact ⟨h, by omega, by omega⟩
  · rintro ⟨h, h', h''⟩; exact ⟨h, by omega⟩

/-- A table of rows by segment as a buffer. -/
def tab {α : Type} (n : ℕ) (f : ℕ → Fin 128 → α) : (SR n 128).Idx → α := fun j => f (j 0).val (j 1)

/-- Eight stores of sixteen columns replace one row. -/
theorem blk_row {α : Type} {n : ℕ} (T : ℕ → Fin 128 → α) (b : ℕ) (v : Fin 128 → α) :
    blk (blk (blk (blk (blk (blk (blk (blk (tab n T) b 0 (vec 0 v)) b 16 (vec 1 v)) b 32 (vec 2 v)) b 48 (vec 3 v))
      b 64 (vec 4 v)) b 80 (vec 5 v)) b 96 (vec 6 v)) b 112 (vec 7 v)
      = tab n (fun g => if g = b then v else T g) := by
  funext j
  have hj : (j 1).val < 128 := (j 1).isLt
  by_cases hb : (j 0).val = b
  · have key : ∀ (k : Fin 8) (h : 16 * k.val ≤ (j 1).val ∧ (j 1).val < 16 * k.val + 16),
        vec k v (Shape.ofLane (d := ![16]) ⟨((j 1).val - 16 * k.val) % 16, Nat.mod_lt _ (by decide)⟩) = v (j 1) := by
      intro k h
      unfold vec
      congr 1
      refine Fin.ext ?_
      show 16 * k.val + ((j 1).val - 16 * k.val) % 16 = (j 1).val
      omega
    have e : tab n (fun g => if g = b then v else T g) j = v (j 1) := by simp [tab, hb]
    rw [e]
    unfold blk
    simp only [hb, true_and]
    split; · exact key 7 ‹_›
    split; · exact key 6 ‹_›
    split; · exact key 5 ‹_›
    split; · exact key 4 ‹_›
    split; · exact key 3 ‹_›
    split; · exact key 2 ‹_›
    split; · exact key 1 ‹_›
    split; · exact key 0 ‹_›
    omega
  · simp [blk, tab, hb]

/-- A count by segment as a buffer of sixteen equal columns. -/
def ctab {α : Type} (n : ℕ) (f : ℕ → α) : (SR n 16).Idx → α := fun j => f (j 0).val

theorem blk_cnt {α : Type} {n : ℕ} (T : ℕ → α) (b : ℕ) (v : α) :
    blk (ctab n T) b 0 (fun _ => v) = ctab n (fun g => if g = b then v else T g) := by
  funext j
  have hj : (j 1).val < 16 := (j 1).isLt
  simp only [blk, ctab, Nat.zero_le, true_and, Nat.zero_add, hj, and_true]

/-! ## The rows of one tile -/

/-- An index of a matrix, of a vector. -/
def ix2 {n w : ℕ} (i : Fin n) (j : Fin w) : (SR n w).Idx := fun a => match a with | 0 => i | 1 => j
def ix1 {n : ℕ} (i : Fin n) : (⟨1, ![n]⟩ : Shape).Idx := fun a => match a with | 0 => i

theorem ix2_eta {n w : ℕ} (j : (SR n w).Idx) : ix2 (j 0) (j 1) = j := by
  funext a
  match a with
  | 0 => rfl
  | 1 => rfl

/-- The first chunk of tile `w`, and how many it takes. -/
def c0 (w : ℕ) : ℕ := 15 * w + min w 20
def cn (w : ℕ) : ℕ := if w < 20 then 16 else 15

/-- Row `k`, in its range. -/
def rowF (k : ℕ) : Fin 100000 := ⟨k % 100000, Nat.mod_lt _ (by decide)⟩

/-- Row `n` of tile `w`: its segment and its values. -/
def bOf (B : (⟨1, ![100000]⟩ : Shape).Idx → BitVec 32) (w : ℕ) (n : ℕ) : BitVec 32 := B (ix1 (rowF (200 * c0 w + n)))
def xOf (X : (SR 100000 128).Idx → F .f32) (w : ℕ) (n : ℕ) : Fin 128 → F .f32 := fun j => X (ix2 (rowF (200 * c0 w + n)) j)

/-- Tile `w`'s state after `n` rows, and at its end. -/
def tileAt (B : (⟨1, ![100000]⟩ : Shape).Idx → BitVec 32) (X : (SR 100000 128).Idx → F .f32) (w n : ℕ) : St F :=
  run (bOf B w) (xOf X w) n
def tile (B : (⟨1, ![100000]⟩ : Shape).Idx → BitVec 32) (X : (SR 100000 128).Idx → F .f32) (w : ℕ) : St F :=
  tileAt B X w (200 * cn w)

/-- The three outputs of the tiles. -/
def outA (B : (⟨1, ![100000]⟩ : Shape).Idx → BitVec 32) (X : (SR 100000 128).Idx → F .f32) :
    (⟨3, ![32, 128, 128]⟩ : Shape).Idx → F .f32 := fun j => (tile B X (j 0).val).A (j 1).val (j 2)
def outM (B : (⟨1, ![100000]⟩ : Shape).Idx → BitVec 32) (X : (SR 100000 128).Idx → F .f32) :
    (⟨3, ![32, 128, 128]⟩ : Shape).Idx → F .f32 := fun j => (tile B X (j 0).val).M (j 1).val (j 2)
def outC (B : (⟨1, ![100000]⟩ : Shape).Idx → BitVec 32) (X : (SR 100000 128).Idx → F .f32) :
    (⟨3, ![32, 128, 16]⟩ : Shape).Idx → F .f32 := fun j => (tile B X (j 0).val).C (j 1).val

end Cert.Proof.Spec

end
-- ==== Proof.KICommon.lean ====
/-
  The kernel's launch as its threads see it: the program's parts, the ghost state, the buffers and their views, what a
  call's start and end hand over, and a tile's own semaphores and scratch buffers.
-/
module

public import proofs.«01_k».proof.Defs
public import Idealize.ShloMosaic.Lib.SparseCore.Quiescent
public import Idealize.ShloMosaic.Lib.SparseCore.Ops
public import Idealize.ShloMosaic.Lib.ShareLeaves
public import Idealize.ShloMosaic.Lib.StableHlo.Run
public import Idealize.ShloMosaic.Lib.Pipeline.Kit
public import Idealize.ShloMosaic.Lib.Pipeline.Frame
public import Idealize.ShloMosaic.Lib.Tactic
public import proofs.«01_k».proof.Proof.Gen.KernelIdeal
public import proofs.«01_k».proof.Proof.Gen.KernelIdeal.Skeleton
public import proofs.«01_k».proof.Proof.Spec

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program's parts -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes, the merge's pipeline, the transfers' counters -/

abbrev UH : Type := URounds (GSem nD τ sig) ℕ
abbrev UU : Type := UH × (UR sig nD τ × Counters)

local notation "𝕄" => MT nD τ sig (HIx 1) (Elt F) ℕ UU ℕ

/-! ## The arrays and the scratch of a tile -/

/-- The rows, as a tile sees them. -/
abbrev xV : Memref sig Kind.scVector Space.hbm S100000x128 EltTy.f32 :=
  Memref.whole main_arg0_scv
/-- The rows' segments, as a tile sees them. -/
abbrev bV : Memref sig Kind.scVector Space.hbm S100000 EltTy.i32 :=
  Memref.whole main_arg1_scv
/-- The tiles' sums, as a tile sees them. -/
abbrev aV : Memref sig Kind.scVector Space.hbm S32x128x128 EltTy.f32 :=
  Memref.whole main_v0_0_scv
/-- The tiles' maxima, as a tile sees them. -/
abbrev mV : Memref sig Kind.scVector Space.hbm S32x128x128 EltTy.f32 :=
  Memref.whole main_v0_1_scv
/-- The tiles' counts, as a tile sees them. -/
abbrev nV : Memref sig Kind.scVector Space.hbm S32x128x16 EltTy.f32 :=
  Memref.whole main_v0_2_scv
/-- A tile's chunk of rows. -/
abbrev xS : Memref sig Kind.scVector Space.vmem S200x128 EltTy.f32 :=
  Memref.whole cc0_scratch0
/-- A tile's chunk of segments. -/
abbrev bS : Memref sig Kind.scVector Space.vmem S200 EltTy.i32 :=
  Memref.whole cc0_scratch1
/-- A tile's table of sums. -/
abbrev aS : Memref sig Kind.scVector Space.vmem S128x128 EltTy.f32 :=
  Memref.whole cc0_scratch2
/-- A tile's table of maxima. -/
abbrev mS : Memref sig Kind.scVector Space.vmem S128x128 EltTy.f32 :=
  Memref.whole cc0_scratch3
/-- A tile's table of counts. -/
abbrev nS : Memref sig Kind.scVector Space.vmem S128x16 EltTy.f32 :=
  Memref.whole cc0_scratch4

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb (UR sig nD τ) (MT nD τ sig (HIx 1) (Elt F) ℕ UU ℕ) :=
  ((Emb.inl : Emb (UR sig nD τ) (UR sig nD τ × Counters)).trans (Emb.inr : Emb _ UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb (UR sig nD τ) 𝕄).LandsIn (upEmb : UEmb _ 𝕄) := by unfold EP; infer_instance

/-! ## The buffers -/

variable (m : (ℓ : Loc nD τ sig) → Buf (Elt F) ℓ) (ρ : Dev nD → PrngReg)

abbrev xLoc (d : Dev nD) : Loc nD τ sig := (SparseCore.T d).loc main_arg0
abbrev bLoc (d : Dev nD) : Loc nD τ sig := (SparseCore.T d).loc main_arg1
abbrev aLoc (d : Dev nD) : Loc nD τ sig := (SparseCore.T d).loc main_v0_0
abbrev mLoc (d : Dev nD) : Loc nD τ sig := (SparseCore.T d).loc main_v0_1
abbrev cLoc (d : Dev nD) : Loc nD τ sig := (SparseCore.T d).loc main_v0_2
abbrev rLoc (d : Dev nD) : Loc nD τ sig := (SparseCore.T d).loc main_v1

theorem adiv : 32 ∣ S32x128x128.size 0 := ⟨1, rfl⟩
theorem cdiv : 32 ∣ S32x128x16.size 0 := ⟨1, rfl⟩
/-- Slab `w` of the tiles' outputs. -/
abbrev aslab (w : Fin 32) : Rect S32x128x128 := Rect.part (s := S32x128x128) (a₀ := 0) adiv w
abbrev cslab (w : Fin 32) : Rect S32x128x16 := Rect.part (s := S32x128x16) (a₀ := 0) cdiv w
abbrev aSet (w : Fin 32) : Finset S32x128x128.Idx := (aslab w).set
abbrev cSet (w : Fin 32) : Finset S32x128x16.Idx := (cslab w).set

/-! ## What the call hands over -/

abbrev X (d : Dev nD) : (Spec.SR 100000 128).Idx → F .f32 := m (xLoc d)
abbrev B (d : Dev nD) : (⟨1, ![100000]⟩ : Shape).Idx → BitVec 32 := m (bLoc d)

/-- Tile `w`'s share of the inputs. -/
abbrev sh (w : Fin 32) : PosShare TreeShare := ShareLeaves.leaf 5 fullShare w

/-- What tile `w` takes, and what it brings back: its slabs at the tile's state. -/
abbrev goW (d : Dev nD) (w : Fin 32) : sProp 𝕄 :=
  iprop((xLoc d ↦{sh w} m (xLoc d)) ∗ (bLoc d ↦{sh w} m (bLoc d)) ∗ (aLoc d ↦[aSet w]{fullShare} m (aLoc d))
    ∗ (mLoc d ↦[aSet w]{fullShare} m (mLoc d)) ∗ (cLoc d ↦[cSet w]{fullShare} m (cLoc d)))

variable [FloatOps F]

abbrev oA (d : Dev nD) : Buf (Elt F) (aLoc d) := Spec.outA (B m d) (X m d)
abbrev oM (d : Dev nD) : Buf (Elt F) (mLoc d) := Spec.outM (B m d) (X m d)
abbrev oC (d : Dev nD) : Buf (Elt F) (cLoc d) := Spec.outC (B m d) (X m d)

abbrev tdW (d : Dev nD) (w : Fin 32) : sProp 𝕄 :=
  iprop((xLoc d ↦{sh w} m (xLoc d)) ∗ (bLoc d ↦{sh w} m (bLoc d)) ∗ (aLoc d ↦[aSet w]{fullShare} oA m d)
    ∗ (mLoc d ↦[aSet w]{fullShare} oM m d) ∗ (cLoc d ↦[cSet w]{fullShare} oC m d))

/-- The tile of SparseCore `c` and subcore `i`. -/
def wid (c : Fin 2) (i : Fin 16) : Fin 32 := ⟨2 * i.val + c.val, by omega⟩
abbrev widK (c : Fin ((K (F := F)).nCore 0)) (i : Fin ((K (F := F)).nSub 0)) : Fin 32 :=
  wid (Fin.cast nCore_zero c) (Fin.cast nSub_zero i)

def P : (K (F := F)).Pay (nD := nD) (Val := Elt F) (Name := ℕ) (U := UU) where
  st := fun q d c => match q with | 0 => bigSep Finset.univ fun i : Fin ((K (F := F)).nSub 0) => goW m d (widK c i)
  dn := fun q d c => match q with | 0 => bigSep Finset.univ fun i : Fin ((K (F := F)).nSub 0) => tdW m d (widK c i)
  go := fun q d c i => match q with | 0 => goW m d (widK c i)
  td := fun q d c i => match q with | 0 => tdW m d (widK c i)
  x := fun _ _ => iprop(emp)

instance P_storable : (P (F := F) m).IsStorable where
  st q d c := match q with
    | 0 => (inferInstance : BI.Storable (upEmb : UEmb _ 𝕄) (bigSep Finset.univ fun i : Fin ((K (F := F)).nSub 0) => goW m d (widK c i)))
  dn q d c := match q with
    | 0 => (inferInstance : BI.Storable (upEmb : UEmb _ 𝕄) (bigSep Finset.univ fun i : Fin ((K (F := F)).nSub 0) => tdW m d (widK c i)))
  go q d c i := match q with
    | 0 => (inferInstance : BI.Storable (upEmb : UEmb _ 𝕄) (goW m d (widK c i)))
  td q d c i := match q with
    | 0 => (inferInstance : BI.Storable (upEmb : UEmb _ 𝕄) (tdW m d (widK c i)))

/-- What the proof asks of the launch memory: every segment number is below 128. -/
def PreOK : Prop := ∀ (d : Dev nD) (j : S100000.Idx), (m (bLoc d) j).toNat < 128

theorem vecSplit : (K (F := F)).VecSplit' (P m) 0 := by
  intro d c
  show (bigSep Finset.univ fun i : Fin ((K (F := F)).nSub 0) => goW m d (widK c i)) ⊢ |={Set.univ}=> iprop(
      (bigSep Finset.univ fun i : Fin ((K (F := F)).nSub 0) => goW m d (widK c i))
      ∗ ((bigSep Finset.univ fun i : Fin ((K (F := F)).nSub 0) => tdW m d (widK c i))
          -∗ (bigSep Finset.univ fun i : Fin ((K (F := F)).nSub 0) => tdW m d (widK c i))))
  iintro H; imodintro
  isplitl [H]; · iexact H
  iintro H; iexact H

/-! ## A tile's semaphores and scratch -/

section Tile

variable (d : Dev nD) (L : grid0.Coords)

abbrev cV (L : grid0.Coords) : Fin τ.nSC := (L 0).castLE hcore0
abbrev jV (L : grid0.Coords) : Fin τ.nSub := (L 1).castLE hsub0
abbrev thr : Thread nD τ := V d (cV L) (jV L)
abbrev cell (s : DmaSem sig) : GSem nD τ sig := (thr d L, .dma s)

abbrev s0 : DmaSem sig := cc0_scoped0.sem
abbrev s1 : DmaSem sig := cc0_scoped1.sem
abbrev s2 : DmaSem sig := cc0_scoped2.sem
abbrev s3 : DmaSem sig := cc0_scoped3.sem
abbrev s4 : DmaSem sig := cc0_scoped4.sem
abbrev s5 : DmaSem sig := cc0_scoped5.sem
abbrev s6 : DmaSem sig := cc0_scoped6.sem

theorem cell_ne {s t : DmaSem sig} (h : s ≠ t) : cell d L s ≠ cell d L t :=
  fun e => h (by have := (Prod.mk.inj e).2; injection this)

theorem mem_own {s : DmaSem sig} (h : (SemLoc.dma s : SemLoc sig).isScoped .scVector = true) : cell d L s ∈ ownCells (thr d L) :=
  (mem_ownCells (g := cell d L s)).mpr ⟨rfl, h⟩

abbrev restCells : Finset (GSem nD τ sig) :=
  (((((ownCells (thr d L)).erase (cell d L s0)).erase (cell d L s1)).erase (cell d L s4)).erase (cell d L s5)).erase (cell d L s6)

omit [FloatOps F] in
theorem ownSems0_V :
    (ownSems0 (thr d L) : sProp 𝕄)
      = iprop(semVal (cell d L s0) 0 ∗ semVal (cell d L s1) 0 ∗ semVal (cell d L s4) 0 ∗ semVal (cell d L s5) 0 ∗ semVal (cell d L s6) 0
          ∗ bigSep (restCells d L) fun g => semVal g 0) := by
  unfold SparseCore.Cfg.ownSems0
  have n01 : cell d L s1 ≠ cell d L s0 := cell_ne d L (by decide)
  have n04 : cell d L s4 ≠ cell d L s0 := cell_ne d L (by decide)
  have n14 : cell d L s4 ≠ cell d L s1 := cell_ne d L (by decide)
  have n05 : cell d L s5 ≠ cell d L s0 := cell_ne d L (by decide)
  have n15 : cell d L s5 ≠ cell d L s1 := cell_ne d L (by decide)
  have n45 : cell d L s5 ≠ cell d L s4 := cell_ne d L (by decide)
  have n06 : cell d L s6 ≠ cell d L s0 := cell_ne d L (by decide)
  have n16 : cell d L s6 ≠ cell d L s1 := cell_ne d L (by decide)
  have n46 : cell d L s6 ≠ cell d L s4 := cell_ne d L (by decide)
  have n56 : cell d L s6 ≠ cell d L s5 := cell_ne d L (by decide)
  have m0 := mem_own d L (s := s0) (by decide)
  have m1 := mem_own d L (s := s1) (by decide)
  have m4 := mem_own d L (s := s4) (by decide)
  have m5 := mem_own d L (s := s5) (by decide)
  have m6 := mem_own d L (s := s6) (by decide)
  rw [SparseCore.bigSep_erase' m0,
    SparseCore.bigSep_erase' (Finset.mem_erase.mpr ⟨n01, m1⟩),
    SparseCore.bigSep_erase' (Finset.mem_erase.mpr ⟨n14, Finset.mem_erase.mpr ⟨n04, m4⟩⟩),
    SparseCore.bigSep_erase' (Finset.mem_erase.mpr ⟨n45, Finset.mem_erase.mpr ⟨n15, Finset.mem_erase.mpr ⟨n05, m5⟩⟩⟩),
    SparseCore.bigSep_erase' (Finset.mem_erase.mpr ⟨n56, Finset.mem_erase.mpr ⟨n46, Finset.mem_erase.mpr ⟨n16, Finset.mem_erase.mpr ⟨n06, m6⟩⟩⟩⟩)]

abbrev dref (b : Ref sig .scVector) : DevRef τ sig := (Proc.scVector (cV L) (jV L)).devRef b

theorem dref_ne {s t : Ref sig .scVector} (h : s ≠ t) : dref L s ≠ dref L t := fun e => h (Proc.devRef_injective _ e)

theorem mem_ref (b : Ref sig .scVector) (h : (dref L b).owner = .proc (Proc.scVector (cV L) (jV L))) :
    dref L b ∈ ownRefs (τ := τ) (.scVector (cV L) (jV L)) :=
  SparseCore.Cfg.mem_ownRefs_of_owner (p := Proc.scVector (cV L) (jV L)) (b := dref L b) h

abbrev restRefs : Finset (DevRef τ sig) :=
  (((((ownRefs (τ := τ) (.scVector (cV L) (jV L))).erase (dref L cc0_scratch0)).erase (dref L cc0_scratch1)).erase (dref L cc0_scratch2)).erase
    (dref L cc0_scratch3)).erase (dref L cc0_scratch4)

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f)
          ∗ bigSep (restRefs L) fun b => iprop(∃ f, ((d, b) : Loc nD τ sig) ↦{fullShare} f)) := by
  unfold SparseCore.Cfg.ownBufs
  have n (s t : Ref sig .scVector) (h : s ≠ t) := dref_ne L h
  have m0 := mem_ref L cc0_scratch0 rfl
  have m1 := mem_ref L cc0_scratch1 rfl
  have m2 := mem_ref L cc0_scratch2 rfl
  have m3 := mem_ref L cc0_scratch3 rfl
  have m4 := mem_ref L cc0_scratch4 rfl
  refine (SparseCore.bigSep_erase' m0).trans ?_
  rw [SparseCore.bigSep_erase' (Finset.mem_erase.mpr ⟨n cc0_scratch1 cc0_scratch0 (by decide), m1⟩),
    SparseCore.bigSep_erase' (Finset.mem_erase.mpr ⟨n cc0_scratch2 cc0_scratch1 (by decide), Finset.mem_erase.mpr ⟨n cc0_scratch2 cc0_scratch0 (by decide), m2⟩⟩),
    SparseCore.bigSep_erase' (Finset.mem_erase.mpr ⟨n cc0_scratch3 cc0_scratch2 (by decide), Finset.mem_erase.mpr ⟨n cc0_scratch3 cc0_scratch1 (by decide),
      Finset.mem_erase.mpr ⟨n cc0_scratch3 cc0_scratch0 (by decide), m3⟩⟩⟩),
    SparseCore.bigSep_erase' (Finset.mem_erase.mpr ⟨n cc0_scratch4 cc0_scratch3 (by decide), Finset.mem_erase.mpr ⟨n cc0_scratch4 cc0_scratch2 (by decide),
      Finset.mem_erase.mpr ⟨n cc0_scratch4 cc0_scratch1 (by decide), Finset.mem_erase.mpr ⟨n cc0_scratch4 cc0_scratch0 (by decide), m4⟩⟩⟩⟩)]

end Tile

end Cert.Proof.KI

end
-- ==== Proof.KIRow.lean ====
/-
  One row of a chunk: the loads and indexed stores of the row loop's body, over the recursion of `Spec`.
-/
module

public import proofs.«01_k».proof.Proof.KICommon
public import Idealize.ShloMosaic.Lib.Pipeline.Value

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec (vec blk tab ctab ix1 ix2 St)

variable {F : FTy → Type} [FloatOps F]

local notation "𝕄" => MT nD τ sig (HIx 1) (Elt F) ℕ UU ℕ

variable (d : Dev nD) (L : grid0.Coords)

/-! ## The accesses -/

/-- Sixteen columns of a row of the chunk. -/
def ldr (f : S200x128.Idx → F .f32) (r : Fin 200) (k : Fin 8) : S1x16.Idx → F .f32 :=
  fun i => vec k (fun j => f (ix2 r j)) (fun a => i a.succ)

abbrev ptx (f : Buf (Elt F) ((thr d L).loc cc0_scratch0)) : sProp 𝕄 := (thr d L).loc cc0_scratch0 ↦{fullShare} f
abbrev ptb (f : Buf (Elt F) ((thr d L).loc cc0_scratch1)) : sProp 𝕄 := (thr d L).loc cc0_scratch1 ↦{fullShare} f
abbrev pta (f : Buf (Elt F) ((thr d L).loc cc0_scratch2)) : sProp 𝕄 := (thr d L).loc cc0_scratch2 ↦{fullShare} f
abbrev ptm (f : Buf (Elt F) ((thr d L).loc cc0_scratch3)) : sProp 𝕄 := (thr d L).loc cc0_scratch3 ↦{fullShare} f
abbrev ptn (f : Buf (Elt F) ((thr d L).loc cc0_scratch4)) : sProp 𝕄 := (thr d L).loc cc0_scratch4 ↦{fullShare} f

theorem readAt_row (f : Buf (Elt F) ((thr d L).loc cc0_scratch0)) (r : Fin 200) (k : Fin 8) (off : Fin 2 → ℕ) (ho : off = ![r.val, 16 * k.val])
    (inb : ∀ a, off a + S1x16.size a ≤ S200x128.size a) :
    (xS).view.readAt (Elt F) (Rect.unit (s := S200x128) off S1x16.size inb).toLoadRect f = ldr f r k := by
  subst ho
  funext i
  unfold ldr vec
  show f _ = f _
  congr 1
  funext a
  match a with
  | 0 =>
    refine Fin.ext ?_
    have h : (i 0).val = 0 := by have : (i 0).val < 1 := (i 0).isLt; omega
    show r.val + 1 * (i 0).val = r.val
    omega
  | 1 =>
    refine Fin.ext ?_
    show 16 * k.val + 1 * (i 1).val = 16 * k.val + (i 1).val
    omega

theorem wp_ldx {α : Type} {Q : α → sProp 𝕄} (f : Buf (Elt F) ((thr d L).loc cc0_scratch0)) (r : Fin 200) (k : Fin 8) (off : Fin 2 → ℕ) (ho : off = ![r.val, 16 * k.val])
    (inb : ∀ a, off a + S1x16.size a ≤ S200x128.size a) {hl : (xS).view.LoadsAt (Rect.unit (s := S200x128) off S1x16.size inb).toLoadRect}
    {p : (S1x16.Idx → Elt F .f32) → Prog (TpuEff nD τ sig (Elt F) Λ₀ (.scVector (cV L) (jV L))) α} :
    ptx d L f ⊢ iprop((ptx d L f -∗ wp frame (wpE (defs₀ (F := F)) 𝒱₀ (thr d L) none) Set.univ (p (ldr f r k)) Q)
      -∗ wp frame (wpE (defs₀ (F := F)) 𝒱₀ (thr d L) none) Set.univ (.op (.load (xS) (Rect.unit (s := S200x128) off S1x16.size inb).toLoadRect hl) p) Q) := by
  rw [← readAt_row d L f r k off ho inb]
  exact wp_load (defs := defs₀ (F := F)) 𝒱₀ (thr d L) none Set.univ (Q := Q) (m := (xS : Memref sig .scVector .vmem S200x128 .f32)) (S := Finset.univ) (q := fullShare) (f := f)
    (r := (Rect.unit (s := S200x128) off S1x16.size inb).toLoadRect) (hl := hl) (k := p) (Finset.subset_univ _)

theorem wp_ldb {α : Type} {Q : α → sProp 𝕄} (f : Buf (Elt F) ((thr d L).loc cc0_scratch1)) (r : Fin 200) (v : IVec S16 32) (hv : ∀ x, (v x).toNat = r.val)
    (h : ∀ a x, ((![v] : Fin 1 → IVec S16 32) a x).toNat < S200.size a) {hl : (bS).view.Loads}
    {p : Vec F S16 .i32 → Prog (TpuEff nD τ sig (Elt F) Λ₀ (.scVector (cV L) (jV L))) α} :
    ptb d L f ⊢ iprop((ptb d L f -∗ wp frame (wpE (defs₀ (F := F)) 𝒱₀ (thr d L) none) Set.univ (p (fun _ => f (ix1 r))) Q)
      -∗ wp frame (wpE (defs₀ (F := F)) 𝒱₀ (thr d L) none) Set.univ (SparseCore.vectorLoadIdx (bS) ![v] h hl >>= p) Q) := by
  have h' := SparseCore.wp_vectorLoadIdx (defs := defs₀ (F := F)) 𝒱₀ (thr d L) none Set.univ (Q := Q) (base := (Memref.whole cc0_scratch1 : Memref sig .scVector .vmem S200 .i32)) (S := Finset.univ) (q := fullShare) (f := f)
    (idxs := ![v]) (h := h) (hl := hl) (k := p) (Finset.subset_univ _)
  have e : loadIdx (F := F) (((Memref.whole cc0_scratch1 : Memref sig .scVector .vmem S200 .i32).access (.whole cc0_scratch1.ty.shape)).read (Elt F) f) ![v] h = fun _ => f (ix1 r) := by
    funext x
    show f _ = f _
    congr 1
    funext a
    match a with
    | 0 => exact Fin.ext ((Nat.zero_add _).trans ((Nat.one_mul _).trans (hv x)))
  rw [e] at h'
  exact h'

theorem wp_sta {α : Type} {Q : α → sProp 𝕄} (f : Buf (Elt F) ((thr d L).loc cc0_scratch2)) (b : BitVec 32) (c : ℕ) (v : S16.Idx → F .f32) (i0 i1 : IVec S16 32)
    (h0 : ∀ x, i0 x = b) (h1 : ∀ x, (i1 x).toNat = c + (x 0).val) {h : ∀ a x, ((![i0, i1] : Fin 2 → IVec S16 32) a x).toNat < S128x128.size a}
    {hl : ((aS).access (.whole S128x128)).Stores Finset.univ} {p : PUnit → Prog (TpuEff nD τ sig (Elt F) Λ₀ (.scVector (cV L) (jV L))) α} :
    pta d L f ⊢ iprop((pta d L (blk (n := 128) (w := 128) f b.toNat c v) -∗ wp frame (wpE (defs₀ (F := F)) 𝒱₀ (thr d L) none) Set.univ (p ⟨⟩) Q)
      -∗ wp frame (wpE (defs₀ (F := F)) 𝒱₀ (thr d L) none) Set.univ (SparseCore.vectorStoreIdx (aS) ![i0, i1] v (fun _ => 1#1) false h hl >>= p) Q) := by
  have h' := SparseCore.wp_vectorStoreIdx (defs := defs₀ (F := F)) 𝒱₀ (thr d L) none Set.univ (Q := Q) (base := (Memref.whole cc0_scratch2 : Memref sig .scVector .vmem S128x128 .f32)) (f := f)
    (idxs := ![i0, i1]) (v := v) (mask := fun _ => 1#1) (add := false) (h := h) (hs := hl) (k := p)
  rw [Memref.set_access_whole, Memref.read_access_whole, Memref.write_access_whole_univ] at h'
  rw [← Spec.storeIdx_row f b c v i0 i1 h0 h1 h]
  exact h'

theorem wp_stm {α : Type} {Q : α → sProp 𝕄} (f : Buf (Elt F) ((thr d L).loc cc0_scratch3)) (b : BitVec 32) (c : ℕ) (v : S16.Idx → F .f32) (i0 i1 : IVec S16 32)
    (h0 : ∀ x, i0 x = b) (h1 : ∀ x, (i1 x).toNat = c + (x 0).val) {h : ∀ a x, ((![i0, i1] : Fin 2 → IVec S16 32) a x).toNat < S128x128.size a}
    {hl : ((mS).access (.whole S128x128)).Stores Finset.univ} {p : PUnit → Prog (TpuEff nD τ sig (Elt F) Λ₀ (.scVector (cV L) (jV L))) α} :
    ptm d L f ⊢ iprop((ptm d L (blk (n := 128) (w := 128) f b.toNat c v) -∗ wp frame (wpE (defs₀ (F := F)) 𝒱₀ (thr d L) none) Set.univ (p ⟨⟩) Q)
      -∗ wp frame (wpE (defs₀ (F := F)) 𝒱₀ (thr d L) none) Set.univ (SparseCore.vectorStoreIdx (mS) ![i0, i1] v (fun _ => 1#1) false h hl >>= p) Q) := by
  have h' := SparseCore.wp_vectorStoreIdx (defs := defs₀ (F := F)) 𝒱₀ (thr d L) none Set.univ (Q := Q) (base := (Memref.whole cc0_scratch3 : Memref sig .scVector .vmem S128x128 .f32)) (f := f)
    (idxs := ![i0, i1]) (v := v) (mask := fun _ => 1#1) (add := false) (h := h) (hs := hl) (k := p)
  rw [Memref.set_access_whole, Memref.read_access_whole, Memref.write_access_whole_univ] at h'
  rw [← Spec.storeIdx_row f b c v i0 i1 h0 h1 h]
  exact h'

theorem wp_stn {α : Type} {Q : α → sProp 𝕄} (f : Buf (Elt F) ((thr d L).loc cc0_scratch4)) (b : BitVec 32) (c : ℕ) (v : S16.Idx → F .f32) (i0 i1 : IVec S16 32)
    (h0 : ∀ x, i0 x = b) (h1 : ∀ x, (i1 x).toNat = c + (x 0).val) {h : ∀ a x, ((![i0, i1] : Fin 2 → IVec S16 32) a x).toNat < S128x16.size a}
    {hl : ((nS).access (.whole S128x16)).Stores Finset.univ} {p : PUnit → Prog (TpuEff nD τ sig (Elt F) Λ₀ (.scVector (cV L) (jV L))) α} :
    ptn d L f ⊢ iprop((ptn d L (blk (n := 128) (w := 16) f b.toNat c v) -∗ wp frame (wpE (defs₀ (F := F)) 𝒱₀ (thr d L) none) Set.univ (p ⟨⟩) Q)
      -∗ wp frame (wpE (defs₀ (F := F)) 𝒱₀ (thr d L) none) Set.univ (SparseCore.vectorStoreIdx (nS) ![i0, i1] v (fun _ => 1#1) false h hl >>= p) Q) := by
  have h' := SparseCore.wp_vectorStoreIdx (defs := defs₀ (F := F)) 𝒱₀ (thr d L) none Set.univ (Q := Q) (base := (Memref.whole cc0_scratch4 : Memref sig .scVector .vmem S128x16 .f32)) (f := f)
    (idxs := ![i0, i1]) (v := v) (mask := fun _ => 1#1) (add := false) (h := h) (hs := hl) (k := p)
  rw [Memref.set_access_whole, Memref.read_access_whole, Memref.write_access_whole_univ] at h'
  rw [← Spec.storeIdx_row f b c v i0 i1 h0 h1 h]
  exact h'

theorem wp_as {α : Type} {Q : α → sProp 𝕄} {P : Prop} {hd : Decidable P} (h : P)
    {p : PLift P → Prog (TpuEff nD τ sig (Elt F) Λ₀ (.scVector (cV L) (jV L))) α} :
    wp frame (wpE (defs₀ (F := F)) 𝒱₀ (thr d L) none) Set.univ (p ⟨h⟩) Q
      ⊢ wp frame (wpE (defs₀ (F := F)) 𝒱₀ (thr d L) none) Set.univ (.op (.assume P hd) p) Q := by
  rw [wp_assume_of _ _ _ _ h]

theorem wp_rt {α : Type} {Q : α → sProp 𝕄} (v : α) :
    Q v ⊢ wp frame (wpE (defs₀ (F := F)) 𝒱₀ (thr d L) none) Set.univ (.ret v : Prog (TpuEff nD τ sig (Elt F) Λ₀ (.scVector (cV L) (jV L))) α) Q := by
  iintro H
  iapply (Entails.of_eq (wp_pure _ _ _ v Q).symm)
  imodintro
  iexact H

/-! ## The payloads -/

abbrev lanes : IVec S16 32 := iota .scVector S16 32 [0] iota_S16_d0_w32_scVector

theorem lanes_apply (x : S16.Idx) : lanes x = BitVec.ofNat 32 (x 0).val := iota_single_apply _ _ _ _ _ _

theorem cols_apply (c : ℕ) (hc : c ≤ 112) (x : S16.Idx) : (addi lanes (broadcast S16 (BitVec.ofNat 32 c)) x).toNat = c + (x 0).val := by
  have hx : (x 0).val < 16 := (x 0).isLt
  show (lanes x + BitVec.ofNat 32 c).toNat = _
  rw [lanes_apply, BitVec.toNat_add, BitVec.toNat_ofNat, BitVec.toNat_ofNat]
  omega

theorem cast_ldr (f : S200x128.Idx → F .f32) (r : Fin 200) (k : Fin 8) (h : S1x16.ShapeCasts S16) :
    shapeCast S16 (ldr f r k) h = vec k (fun j => f (ix2 r j)) := by
  funext j
  exact shapeCast_dropUnit_apply (![16] : Fin 1 → ℕ) (ldr f r k) h j

theorem ofBool_beq (b p : BitVec 32) : (BitVec.ofBool (b == p) = 1#1) = (b = p) := by
  by_cases h : b = p
  · simp [h]
  · simp [h, beq_eq_false_iff_ne.mpr h]

theorem sel_sum (s : St F) (b : BitVec 32) (x : Fin 128 → F .f32) (k : Fin 8) :
    select (cmpi .eq (fun _ => b : IVec S16 32) (fun _ => s.prev)) (addf (vec k s.sv) (vec k x)) (vec k x) = vec k (s.sv' b x) := by
  funext i
  unfold vec St.sv'
  exact ite_congr (ofBool_beq b s.prev) (fun _ => rfl) (fun _ => rfl)

theorem sel_max (s : St F) (b : BitVec 32) (x : Fin 128 → F .f32) (k : Fin 8) :
    select (cmpi .eq (fun _ => b : IVec S16 32) (fun _ => s.prev)) (maximumf (vec k s.mv) (vec k x)) (vec k x) = vec k (s.mv' b x) := by
  funext i
  unfold vec St.mv'
  exact ite_congr (ofBool_beq b s.prev) (fun _ => rfl) (fun _ => rfl)

theorem sel_cnt (s : St F) (b : BitVec 32) :
    select (cmpi .eq (fun _ => b : IVec S16 32) (fun _ => s.prev)) (addf (fun _ => s.cv) (broadcast S16 (Spec.one (F := F)))) (broadcast S16 (Spec.one (F := F)))
      = (fun _ => s.cv' b : S16.Idx → F .f32) := by
  funext i
  unfold St.cv'
  exact ite_congr (ofBool_beq b s.prev) (fun _ => rfl) (fun _ => rfl)

theorem chk_cols {b : BitVec 32} (hb : b.toNat < 128) (c : ℕ) (hc : c ≤ 112) :
    (∀ a x, ((![(fun _ => b), addi lanes (broadcast S16 (BitVec.ofNat 32 c))] : Fin 2 → IVec S16 32) a x).toNat < S128x128.size a) ∧
    (∀ a x, ((![(fun _ => b), addi lanes (broadcast S16 (BitVec.ofNat 32 c))] : Fin 2 → IVec S16 32) a x).toNat < S128x128.size a) := by
  have h : ∀ a x, ((![(fun _ => b), addi lanes (broadcast S16 (BitVec.ofNat 32 c))] : Fin 2 → IVec S16 32) a x).toNat < S128x128.size a := fun a x => by
    match a with
    | 0 => exact hb
    | 1 =>
      have hx : (x 0).val < 16 := (x 0).isLt
      exact lt_of_eq_of_lt (cols_apply c hc x) (show c + (x 0).val < 128 by omega)
  exact ⟨h, h⟩

theorem chk_lanes {b : BitVec 32} (hb : b.toNat < 128) :
    ∀ a x, ((![(fun _ => b), lanes] : Fin 2 → IVec S16 32) a x).toNat < S128x16.size a := fun a x => by
  match a with
  | 0 => exact hb
  | 1 =>
    have hx : (x 0).val < 16 := (x 0).isLt
    refine lt_of_eq_of_lt (congrArg BitVec.toNat (lanes_apply x)) ?_
    rw [BitVec.toNat_ofNat]
    exact lt_of_le_of_lt (Nat.mod_le _ _) hx

/-- The eight sums of a row, read from the chunk. -/
theorem pay_sum (s : St F) (b : BitVec 32) (f : S200x128.Idx → F .f32) (r : Fin 200) (k : Fin 8) :
    k0_pay13 (fun _ => s.prev) (vec k s.sv) (fun _ => b) (ldr f r k) = vec k (s.sv' b fun j => f (ix2 r j)) := by
  unfold k0_pay13 k0_pay12 k0_pay11
  simp only [cast_ldr]
  exact sel_sum s b _ k

theorem pay_max (s : St F) (b : BitVec 32) (f : S200x128.Idx → F .f32) (r : Fin 200) (k : Fin 8) :
    k0_pay14 (fun _ => s.prev) (vec k s.mv) (fun _ => b) (ldr f r k) = vec k (s.mv' b fun j => f (ix2 r j)) := by
  unfold k0_pay14 k0_pay12 k0_pay11
  simp only [cast_ldr]
  exact sel_max s b _ k

/-! ## The first half of a row -/

theorem iv_row : ∀ n : Fin k0_t3_loop.trips, (Scf.iv 0#32 1#32 n).toNat = n.val := by decide +kernel
theorem trips3 : k0_t3_loop.trips = 200 := by decide +kernel
theorem trips3_lt (n : Fin k0_t3_loop.trips) : n.val < 200 := lt_of_lt_of_eq n.isLt trips3
abbrev rw3 (n : Fin k0_t3_loop.trips) : Fin 200 := ⟨n.val, trips3_lt n⟩

set_option maxHeartbeats 4000000 in
theorem part2 (s : St F) (n : Fin k0_t3_loop.trips) (fx : Buf (Elt F) ((thr d L).loc cc0_scratch0)) (fb : Buf (Elt F) ((thr d L).loc cc0_scratch1))
    (b : BitVec 32) (hb : fb (ix1 (rw3 n)) = b) (hb' : b.toNat < 128) (x : Fin 128 → F .f32) (hx : (fun j => fx (ix2 (rw3 n) j)) = x) :
    iprop(ptx d L fx ∗ ptb d L fb ∗ pta d L (tab 128 s.A) ∗ ptm d L (tab 128 s.M))
      ⊢ wp frame (wpE (defs₀ (F := F)) 𝒱₀ (thr d L) none) Set.univ
          (k0_part2 L xV (Memref.isWhole_whole _) bV (Memref.isWhole_whole _) aV (Memref.isWhole_whole _) mV (Memref.isWhole_whole _) nV (Memref.isWhole_whole _)
            xS (Memref.isWhole_whole _) bS (Memref.isWhole_whole _) aS (Memref.isWhole_whole _) mS (Memref.isWhole_whole _) nS (Memref.isWhole_whole _)
            cc0_scoped0 cc0_scoped1 cc0_scoped2 cc0_scoped3 cc0_scoped4 cc0_scoped5 cc0_scoped6 lanes 0#32 1#32 n (fun _ => s.prev)
            (vec 0 s.sv) (vec 1 s.sv) (vec 2 s.sv) (vec 3 s.sv) (vec 0 s.mv) (vec 1 s.mv) (vec 2 s.mv) (vec 3 s.mv))
          fun r => iprop(∃ h10 h5, ⌜r = ⟨Scf.iv 0#32 1#32 n, fun _ => b, h10, cmpi .eq (fun _ => b) (fun _ => s.prev),
              vec 0 (s.sv' b x), vec 0 (s.mv' b x),
              vec 1 (s.sv' b x), vec 1 (s.mv' b x),
              vec 2 (s.sv' b x), vec 2 (s.mv' b x),
              vec 3 (s.sv' b x), vec 3 (s.mv' b x),
              k0_pay27 lanes, h5⟩⌝
            ∗ ptx d L fx ∗ ptb d L fb
            ∗ pta d L (blk (n := 128) (w := 128) (blk (n := 128) (w := 128) (blk (n := 128) (w := 128) (tab 128 s.A) b.toNat 0 (vec 0 (s.sv' b x)))
                b.toNat 16 (vec 1 (s.sv' b x)))
                b.toNat 32 (vec 2 (s.sv' b x)))
            ∗ ptm d L (blk (n := 128) (w := 128) (blk (n := 128) (w := 128) (blk (n := 128) (w := 128) (tab 128 s.M) b.toNat 0 (vec 0 (s.mv' b x)))
                b.toNat 16 (vec 1 (s.mv' b x)))
                b.toNat 32 (vec 2 (s.mv' b x)))) := by
  rw [k0_part2_eq_skeleton]; unfold k0_part2_skel
  have hc1 : k0_chk1 (broadcast S16 (Scf.iv 0#32 1#32 n)) := fun a x => by
    match a with
    | 0 => exact lt_of_eq_of_lt (iv_row n) (trips3_lt n)
  iintro ⟨Hx, Hb, Ha, Hm⟩
  iapply (wp_as d L hc1)
  iapply (wp_ldb d L fb (rw3 n) (broadcast S16 (Scf.iv 0#32 1#32 n)) (fun _ => iv_row n) (k0_idx1_inb _ hc1) (hl := View.loads_vmem h_S200)) $$ Hb
  iintro Hb
  rw [hb]
  iapply (wp_as d L (chk_lanes hb'))
  iapply (wp_ldx d L fx (rw3 n) 0 (k0_off12 n) (k0_off12_eq n) (k0_off12_inb n) (hl := View.loadsAt_vmem h_S1x16)) $$ Hx
  iintro Hx
  iapply (wp_as d L (chk_cols hb' 0 (by decide)))
  iapply (wp_sta d L _ b 0 _ _ _ (fun _ => rfl) (cols_apply 0 (by decide)) (h := (chk_cols hb' 0 (by decide)).1) (hl := View.stores_vmem_bits_univ h_S128x128 rfl)) $$ Ha
  iintro Ha
  iapply (wp_stm d L _ b 0 _ _ _ (fun _ => rfl) (cols_apply 0 (by decide)) (h := (chk_cols hb' 0 (by decide)).2) (hl := View.stores_vmem_bits_univ h_S128x128 rfl)) $$ Hm
  iintro Hm
  iapply (wp_ldx d L fx (rw3 n) 1 (k0_off13 n) (k0_off13_eq n) (k0_off13_inb n) (hl := View.loadsAt_vmem h_S1x16)) $$ Hx
  iintro Hx
  iapply (wp_as d L (chk_cols hb' 16 (by decide)))
  iapply (wp_sta d L _ b 16 _ _ _ (fun _ => rfl) (cols_apply 16 (by decide)) (h := (chk_cols hb' 16 (by decide)).1) (hl := View.stores_vmem_bits_univ h_S128x128 rfl)) $$ Ha
  iintro Ha
  iapply (wp_stm d L _ b 16 _ _ _ (fun _ => rfl) (cols_apply 16 (by decide)) (h := (chk_cols hb' 16 (by decide)).2) (hl := View.stores_vmem_bits_univ h_S128x128 rfl)) $$ Hm
  iintro Hm
  iapply (wp_ldx d L fx (rw3 n) 2 (k0_off14 n) (k0_off14_eq n) (k0_off14_inb n) (hl := View.loadsAt_vmem h_S1x16)) $$ Hx
  iintro Hx
  iapply (wp_as d L (chk_cols hb' 32 (by decide)))
  iapply (wp_sta d L _ b 32 _ _ _ (fun _ => rfl) (cols_apply 32 (by decide)) (h := (chk_cols hb' 32 (by decide)).1) (hl := View.stores_vmem_bits_univ h_S128x128 rfl)) $$ Ha
  iintro Ha
  iapply (wp_stm d L _ b 32 _ _ _ (fun _ => rfl) (cols_apply 32 (by decide)) (h := (chk_cols hb' 32 (by decide)).2) (hl := View.stores_vmem_bits_univ h_S128x128 rfl)) $$ Hm
  iintro Hm
  iapply (wp_ldx d L fx (rw3 n) 3 (k0_off15 n) (k0_off15_eq n) (k0_off15_inb n) (hl := View.loadsAt_vmem h_S1x16)) $$ Hx
  iintro Hx
  iapply (wp_as d L (chk_cols hb' 48 (by decide)))
  have es0 : k0_pay13 (fun _ => s.prev) (vec 0 s.sv) (fun _ => b) (ldr fx (rw3 n) 0) = vec 0 (s.sv' b x) := hx ▸ pay_sum s b fx (rw3 n) 0
  have em0 : k0_pay14 (fun _ => s.prev) (vec 0 s.mv) (fun _ => b) (ldr fx (rw3 n) 0) = vec 0 (s.mv' b x) := hx ▸ pay_max s b fx (rw3 n) 0
  have es1 : k0_pay17 (fun _ => s.prev) (vec 1 s.sv) (fun _ => b) (ldr fx (rw3 n) 1) = vec 1 (s.sv' b x) := hx ▸ pay_sum s b fx (rw3 n) 1
  have em1 : k0_pay18 (fun _ => s.prev) (vec 1 s.mv) (fun _ => b) (ldr fx (rw3 n) 1) = vec 1 (s.mv' b x) := hx ▸ pay_max s b fx (rw3 n) 1
  have es2 : k0_pay21 (fun _ => s.prev) (vec 2 s.sv) (fun _ => b) (ldr fx (rw3 n) 2) = vec 2 (s.sv' b x) := hx ▸ pay_sum s b fx (rw3 n) 2
  have em2 : k0_pay22 (fun _ => s.prev) (vec 2 s.mv) (fun _ => b) (ldr fx (rw3 n) 2) = vec 2 (s.mv' b x) := hx ▸ pay_max s b fx (rw3 n) 2
  have es3 : k0_pay25 (fun _ => s.prev) (vec 3 s.sv) (fun _ => b) (ldr fx (rw3 n) 3) = vec 3 (s.sv' b x) := hx ▸ pay_sum s b fx (rw3 n) 3
  have em3 : k0_pay26 (fun _ => s.prev) (vec 3 s.mv) (fun _ => b) (ldr fx (rw3 n) 3) = vec 3 (s.mv' b x) := hx ▸ pay_max s b fx (rw3 n) 3
  iapply (wp_rt d L)
  rw [es0, em0, es1, em1, es2, em2, es3, em3]
  iexists (chk_lanes hb'), (chk_cols hb' 48 (by decide))
  isplitr
  · ipureintro
    rfl
  isplitl [Hx]; · iexact Hx
  isplitl [Hb]; · iexact Hb
  isplitl [Ha]; · iexact Ha
  iexact Hm

/-! ## The second half -/

set_option maxHeartbeats 4000000 in
theorem part3 (s : St F) (n : Fin k0_t3_loop.trips) (fx : Buf (Elt F) ((thr d L).loc cc0_scratch0))
    (b : BitVec 32) (hb' : b.toNat < 128) (x : Fin 128 → F .f32) (hx : (fun j => fx (ix2 (rw3 n) j)) = x) (h5 : k0_chk5 (fun _ => b) (k0_pay27 lanes)) :
    iprop(ptx d L fx ∗ pta d L (blk (n := 128) (w := 128) (blk (n := 128) (w := 128) (blk (n := 128) (w := 128) (tab 128 s.A) b.toNat 0 (vec 0 (s.sv' b x))) b.toNat 16 (vec 1 (s.sv' b x))) b.toNat 32 (vec 2 (s.sv' b x)))
        ∗ ptm d L (blk (n := 128) (w := 128) (blk (n := 128) (w := 128) (blk (n := 128) (w := 128) (tab 128 s.M) b.toNat 0 (vec 0 (s.mv' b x))) b.toNat 16 (vec 1 (s.mv' b x))) b.toNat 32 (vec 2 (s.mv' b x))))
      ⊢ wp frame (wpE (defs₀ (F := F)) 𝒱₀ (thr d L) none) Set.univ
          (k0_part3 L xV (Memref.isWhole_whole _) bV (Memref.isWhole_whole _) aV (Memref.isWhole_whole _) mV (Memref.isWhole_whole _) nV (Memref.isWhole_whole _)
            xS (Memref.isWhole_whole _) bS (Memref.isWhole_whole _) aS (Memref.isWhole_whole _) mS (Memref.isWhole_whole _) nS (Memref.isWhole_whole _)
            cc0_scoped0 cc0_scoped1 cc0_scoped2 cc0_scoped3 cc0_scoped4 cc0_scoped5 cc0_scoped6 lanes n
            (vec 4 s.sv) (vec 5 s.sv) (vec 6 s.sv) (vec 7 s.sv) (vec 4 s.mv) (vec 5 s.mv) (vec 6 s.mv) (vec 7 s.mv) (Scf.iv 0#32 1#32 n)
            (fun _ => b) (cmpi .eq (fun _ => b) (fun _ => s.prev)) (vec 3 (s.sv' b x)) (vec 3 (s.mv' b x)) (k0_pay27 lanes) h5)
          fun r => iprop(⌜r = ⟨vec 4 (s.sv' b x), vec 4 (s.mv' b x), vec 5 (s.sv' b x), vec 5 (s.mv' b x), vec 6 (s.sv' b x), vec 6 (s.mv' b x), vec 7 (s.sv' b x), vec 7 (s.mv' b x), broadcast S16 (Spec.one (F := F))⟩⌝
            ∗ ptx d L fx
            ∗ pta d L (blk (n := 128) (w := 128) (blk (n := 128) (w := 128) (blk (n := 128) (w := 128) (blk (n := 128) (w := 128) (blk (n := 128) (w := 128) (blk (n := 128) (w := 128) (blk (n := 128) (w := 128) (blk (n := 128) (w := 128) (tab 128 s.A) b.toNat 0 (vec 0 (s.sv' b x))) b.toNat 16 (vec 1 (s.sv' b x))) b.toNat 32 (vec 2 (s.sv' b x))) b.toNat 48 (vec 3 (s.sv' b x))) b.toNat 64 (vec 4 (s.sv' b x))) b.toNat 80 (vec 5 (s.sv' b x))) b.toNat 96 (vec 6 (s.sv' b x))) b.toNat 112 (vec 7 (s.sv' b x)))
            ∗ ptm d L (blk (n := 128) (w := 128) (blk (n := 128) (w := 128) (blk (n := 128) (w := 128) (blk (n := 128) (w := 128) (blk (n := 128) (w := 128) (blk (n := 128) (w := 128) (blk (n := 128) (w := 128) (blk (n := 128) (w := 128) (tab 128 s.M) b.toNat 0 (vec 0 (s.mv' b x))) b.toNat 16 (vec 1 (s.mv' b x))) b.toNat 32 (vec 2 (s.mv' b x))) b.toNat 48 (vec 3 (s.mv' b x))) b.toNat 64 (vec 4 (s.mv' b x))) b.toNat 80 (vec 5 (s.mv' b x))) b.toNat 96 (vec 6 (s.mv' b x))) b.toNat 112 (vec 7 (s.mv' b x)))) := by
  rw [k0_part3_eq_skeleton]; unfold k0_part3_skel
  iintro ⟨Hx, Ha, Hm⟩
  iapply (wp_sta d L _ b 48 _ _ _ (fun _ => rfl) (cols_apply 48 (by decide)) (h := (chk_cols hb' 48 (by decide)).1) (hl := View.stores_vmem_bits_univ h_S128x128 rfl)) $$ Ha
  iintro Ha
  iapply (wp_stm d L _ b 48 _ _ _ (fun _ => rfl) (cols_apply 48 (by decide)) (h := (chk_cols hb' 48 (by decide)).2) (hl := View.stores_vmem_bits_univ h_S128x128 rfl)) $$ Hm
  iintro Hm
  iapply (wp_ldx d L fx (rw3 n) 4 (k0_off16 n) (k0_off16_eq n) (k0_off16_inb n) (hl := View.loadsAt_vmem h_S1x16)) $$ Hx
  iintro Hx
  iapply (wp_as d L (chk_cols hb' 64 (by decide)))
  iapply (wp_sta d L _ b 64 _ _ _ (fun _ => rfl) (cols_apply 64 (by decide)) (h := (chk_cols hb' 64 (by decide)).1) (hl := View.stores_vmem_bits_univ h_S128x128 rfl)) $$ Ha
  iintro Ha
  iapply (wp_stm d L _ b 64 _ _ _ (fun _ => rfl) (cols_apply 64 (by decide)) (h := (chk_cols hb' 64 (by decide)).2) (hl := View.stores_vmem_bits_univ h_S128x128 rfl)) $$ Hm
  iintro Hm
  iapply (wp_ldx d L fx (rw3 n) 5 (k0_off17 n) (k0_off17_eq n) (k0_off17_inb n) (hl := View.loadsAt_vmem h_S1x16)) $$ Hx
  iintro Hx
  iapply (wp_as d L (chk_cols hb' 80 (by decide)))
  iapply (wp_sta d L _ b 80 _ _ _ (fun _ => rfl) (cols_apply 80 (by decide)) (h := (chk_cols hb' 80 (by decide)).1) (hl := View.stores_vmem_bits_univ h_S128x128 rfl)) $$ Ha
  iintro Ha
  iapply (wp_stm d L _ b 80 _ _ _ (fun _ => rfl) (cols_apply 80 (by decide)) (h := (chk_cols hb' 80 (by decide)).2) (hl := View.stores_vmem_bits_univ h_S128x128 rfl)) $$ Hm
  iintro Hm
  iapply (wp_ldx d L fx (rw3 n) 6 (k0_off18 n) (k0_off18_eq n) (k0_off18_inb n) (hl := View.loadsAt_vmem h_S1x16)) $$ Hx
  iintro Hx
  iapply (wp_as d L (chk_cols hb' 96 (by decide)))
  iapply (wp_sta d L _ b 96 _ _ _ (fun _ => rfl) (cols_apply 96 (by decide)) (h := (chk_cols hb' 96 (by decide)).1) (hl := View.stores_vmem_bits_univ h_S128x128 rfl)) $$ Ha
  iintro Ha
  iapply (wp_stm d L _ b 96 _ _ _ (fun _ => rfl) (cols_apply 96 (by decide)) (h := (chk_cols hb' 96 (by decide)).2) (hl := View.stores_vmem_bits_univ h_S128x128 rfl)) $$ Hm
  iintro Hm
  iapply (wp_ldx d L fx (rw3 n) 7 (k0_off19 n) (k0_off19_eq n) (k0_off19_inb n) (hl := View.loadsAt_vmem h_S1x16)) $$ Hx
  iintro Hx
  iapply (wp_as d L (chk_cols hb' 112 (by decide)))
  iapply (wp_sta d L _ b 112 _ _ _ (fun _ => rfl) (cols_apply 112 (by decide)) (h := (chk_cols hb' 112 (by decide)).1) (hl := View.stores_vmem_bits_univ h_S128x128 rfl)) $$ Ha
  iintro Ha
  iapply (wp_stm d L _ b 112 _ _ _ (fun _ => rfl) (cols_apply 112 (by decide)) (h := (chk_cols hb' 112 (by decide)).2) (hl := View.stores_vmem_bits_univ h_S128x128 rfl)) $$ Hm
  iintro Hm
  have es4 : k0_pay29 (vec 4 s.sv) (cmpi .eq (fun _ => b : IVec S16 32) (fun _ => s.prev)) (ldr fx (rw3 n) 4) = vec 4 (s.sv' b x) := hx ▸ pay_sum s b fx (rw3 n) 4
  have em4 : k0_pay30 (vec 4 s.mv) (cmpi .eq (fun _ => b : IVec S16 32) (fun _ => s.prev)) (ldr fx (rw3 n) 4) = vec 4 (s.mv' b x) := hx ▸ pay_max s b fx (rw3 n) 4
  have es5 : k0_pay33 (vec 5 s.sv) (cmpi .eq (fun _ => b : IVec S16 32) (fun _ => s.prev)) (ldr fx (rw3 n) 5) = vec 5 (s.sv' b x) := hx ▸ pay_sum s b fx (rw3 n) 5
  have em5 : k0_pay34 (vec 5 s.mv) (cmpi .eq (fun _ => b : IVec S16 32) (fun _ => s.prev)) (ldr fx (rw3 n) 5) = vec 5 (s.mv' b x) := hx ▸ pay_max s b fx (rw3 n) 5
  have es6 : k0_pay37 (vec 6 s.sv) (cmpi .eq (fun _ => b : IVec S16 32) (fun _ => s.prev)) (ldr fx (rw3 n) 6) = vec 6 (s.sv' b x) := hx ▸ pay_sum s b fx (rw3 n) 6
  have em6 : k0_pay38 (vec 6 s.mv) (cmpi .eq (fun _ => b : IVec S16 32) (fun _ => s.prev)) (ldr fx (rw3 n) 6) = vec 6 (s.mv' b x) := hx ▸ pay_max s b fx (rw3 n) 6
  have es7 : k0_pay41 (vec 7 s.sv) (cmpi .eq (fun _ => b : IVec S16 32) (fun _ => s.prev)) (ldr fx (rw3 n) 7) = vec 7 (s.sv' b x) := hx ▸ pay_sum s b fx (rw3 n) 7
  have em7 : k0_pay42 (vec 7 s.mv) (cmpi .eq (fun _ => b : IVec S16 32) (fun _ => s.prev)) (ldr fx (rw3 n) 7) = vec 7 (s.mv' b x) := hx ▸ pay_max s b fx (rw3 n) 7
  iapply (wp_rt d L)
  rw [es4, em4, es5, em5, es6, em6, es7, em7]
  isplitr
  · ipureintro
    rfl
  isplitl [Hx]; · iexact Hx
  isplitl [Ha]; · iexact Ha
  iexact Hm

/-! ## A row -/

/-- The values carried from row to row. -/
def pack (s : St F) : IVec S16 32 × FVec F S16 .f32 × FVec F S16 .f32 × FVec F S16 .f32 × FVec F S16 .f32 × FVec F S16 .f32 × FVec F S16 .f32 × FVec F S16 .f32 × FVec F S16 .f32
    × FVec F S16 .f32 × FVec F S16 .f32 × FVec F S16 .f32 × FVec F S16 .f32 × FVec F S16 .f32 × FVec F S16 .f32 × FVec F S16 .f32 × FVec F S16 .f32 × FVec F S16 .f32 :=
  (fun _ => s.prev, vec 0 s.sv, vec 1 s.sv, vec 2 s.sv, vec 3 s.sv, vec 4 s.sv, vec 5 s.sv, vec 6 s.sv, vec 7 s.sv,
    vec 0 s.mv, vec 1 s.mv, vec 2 s.mv, vec 3 s.mv, vec 4 s.mv, vec 5 s.mv, vec 6 s.mv, vec 7 s.mv, fun _ => s.cv)

set_option maxHeartbeats 4000000 in
theorem row (s : St F) (n : Fin k0_t3_loop.trips) (fx : Buf (Elt F) ((thr d L).loc cc0_scratch0)) (fb : Buf (Elt F) ((thr d L).loc cc0_scratch1))
    (hb' : (fb (ix1 (rw3 n))).toNat < 128) :
    iprop(ptx d L fx ∗ ptb d L fb ∗ pta d L (tab 128 s.A) ∗ ptm d L (tab 128 s.M) ∗ ptn d L (ctab 128 s.C))
      ⊢ wp frame (wpE (defs₀ (F := F)) 𝒱₀ (thr d L) none) Set.univ
          (k0_t3_body L xV (Memref.isWhole_whole _) bV (Memref.isWhole_whole _) aV (Memref.isWhole_whole _) mV (Memref.isWhole_whole _) nV (Memref.isWhole_whole _)
            xS (Memref.isWhole_whole _) bS (Memref.isWhole_whole _) aS (Memref.isWhole_whole _) mS (Memref.isWhole_whole _) nS (Memref.isWhole_whole _)
            cc0_scoped0 cc0_scoped1 cc0_scoped2 cc0_scoped3 cc0_scoped4 cc0_scoped5 cc0_scoped6 lanes n (pack s))
          fun r => iprop(⌜r = pack (s.step (fb (ix1 (rw3 n))) (fun j => fx (ix2 (rw3 n) j)))⌝ ∗ ptx d L fx ∗ ptb d L fb
            ∗ pta d L (tab 128 (s.step (fb (ix1 (rw3 n))) (fun j => fx (ix2 (rw3 n) j))).A)
            ∗ ptm d L (tab 128 (s.step (fb (ix1 (rw3 n))) (fun j => fx (ix2 (rw3 n) j))).M)
            ∗ ptn d L (ctab 128 (s.step (fb (ix1 (rw3 n))) (fun j => fx (ix2 (rw3 n) j))).C)) := by
  generalize hb : fb (ix1 (rw3 n)) = b at *
  generalize hx : (fun j => fx (ix2 (rw3 n) j)) = x at *
  unfold k0_t3_body pack
  dsimp only
  iintro ⟨Hx, Hb, Ha, Hm, Hn⟩
  rw [wp_bind]
  iapply (wp_wand_r frame _ _)
  isplitl [Hx Hb Ha Hm]
  · iapply (part2 d L s n fx fb b hb hb' x hx)
    isplitl [Hx]; · iexact Hx
    isplitl [Hb]; · iexact Hb
    isplitl [Ha]; · iexact Ha
    iexact Hm
  iintro %r ⟨%h10, %h5, %hr, Hx, Hb, Ha, Hm⟩
  subst hr
  dsimp only
  rw [wp_bind]
  iapply (wp_wand_r frame _ _)
  isplitl [Hx Ha Hm]
  · iapply (part3 d L s n fx b hb' x hx h5)
    isplitl [Hx]; · iexact Hx
    isplitl [Ha]; · iexact Ha
    iexact Hm
  iintro %r ⟨%hr, Hx, Ha, Hm⟩
  subst hr
  dsimp only
  have ec : k0_pay89 (fun _ => s.cv) (cmpi .eq (fun _ => b : IVec S16 32) (fun _ => s.prev)) (broadcast S16 (Spec.one (F := F))) = (fun _ => s.cv' b) := sel_cnt s b
  rw [ec]
  iapply (wp_stn d L _ b 0 _ _ _ (fun _ => rfl) (fun y => by
    have hy : (y 0).val < 16 := (y 0).isLt
    rw [lanes_apply, BitVec.toNat_ofNat]
    omega) (h := chk_lanes hb') (hl := View.stores_vmem_bits_univ h_S128x16 rfl)) $$ Hn
  iintro Hn
  iapply (wp_rt d L)
  isplitr
  · ipureintro
    rfl
  isplitl [Hx]; · iexact Hx
  isplitl [Hb]; · iexact Hb
  isplitl [Ha]
  · iapply (Entails.of_eq (congrArg (pta d L) (Spec.blk_row (n := 128) s.A b.toNat (s.sv' b x))))
    iexact Ha
  isplitl [Hm]
  · iapply (Entails.of_eq (congrArg (ptm d L) (Spec.blk_row (n := 128) s.M b.toNat (s.mv' b x))))
    iexact Hm
  iapply (Entails.of_eq (congrArg (ptn d L) (Spec.blk_cnt (n := 128) s.C b.toNat (s.cv' b))))
  iexact Hn

end Cert.Proof.KI

end
-- ==== Proof.KIInit.lean ====
/-
  The three tables' initialisation: every row of the sums and counts zero, of the maxima the least value.
-/
module

public import proofs.«01_k».proof.Proof.KIRow
public import Idealize.ShloMosaic.Lib.Pipeline.Value

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec (vec blk tab ctab ix1 ix2 St)

variable {F : FTy → Type} [FloatOps F]

local notation "𝕄" => MT nD τ sig (HIx 1) (Elt F) ℕ UU ℕ

variable (d : Dev nD) (L : grid0.Coords)

/-! ## Stores of one value on sixteen columns -/

theorem upd_blk {n w : ℕ} (f : (Spec.SR n w).Idx → F .f32) (r c : ℕ) (v : S1x16.Idx → F .f32) (z : F .f32) (hv : ∀ i, v i = z) (off : Fin 2 → ℕ) (ho : off = ![r, c])
    (h : (Spec.SR n w).Slices off S1x16) : updateSlice (s := Spec.SR n w) (u := S1x16) f v off h = blk f r c (fun _ => z) := by
  subst ho
  funext j
  have e : (∀ a : Fin 2, (![r, c] : Fin 2 → ℕ) a ≤ (j a).val ∧ (j a).val < (![r, c] : Fin 2 → ℕ) a + S1x16.size a)
      ↔ ((j 0).val = r ∧ c ≤ (j 1).val ∧ (j 1).val < c + 16) := by
    rw [Fin.forall_fin_two]
    show (r ≤ (j 0).val ∧ (j 0).val < r + 1) ∧ (c ≤ (j 1).val ∧ (j 1).val < c + 16) ↔ _
    omega
  unfold updateSlice blk
  by_cases hc : (j 0).val = r ∧ c ≤ (j 1).val ∧ (j 1).val < c + 16
  · refine Eq.trans (dif_pos ?_) ((hv _).trans (if_pos hc).symm)
    exact e.mpr hc
  · refine Eq.trans (dif_neg ?_) (if_neg hc).symm
    exact fun h => hc (e.mp h)

theorem wp_lda {α : Type} {Q : α → sProp 𝕄} (f : Buf (Elt F) ((thr d L).loc cc0_scratch2)) (off : Fin 2 → ℕ)
    (inb : ∀ a, off a + S1x16.size a ≤ S128x128.size a) {hl : (aS).view.LoadsAt (Rect.unit (s := S128x128) off S1x16.size inb).toLoadRect}
    {p : (S1x16.Idx → Elt F .f32) → Prog (TpuEff nD τ sig (Elt F) Λ₀ (.scVector (cV L) (jV L))) α} :
    pta d L f ⊢ iprop((pta d L f -∗ wp frame (wpE (defs₀ (F := F)) 𝒱₀ (thr d L) none) Set.univ (p ((aS).view.readAt (Elt F) (Rect.unit (s := S128x128) off S1x16.size inb).toLoadRect f)) Q)
      -∗ wp frame (wpE (defs₀ (F := F)) 𝒱₀ (thr d L) none) Set.univ (.op (.load (aS) (Rect.unit (s := S128x128) off S1x16.size inb).toLoadRect hl) p) Q) :=
  wp_load (defs := defs₀ (F := F)) 𝒱₀ (thr d L) none Set.univ (Q := Q) (m := (aS : Memref sig .scVector .vmem S128x128 .f32)) (S := Finset.univ) (q := fullShare) (f := f)
    (r := (Rect.unit (s := S128x128) off S1x16.size inb).toLoadRect) (hl := hl) (k := p) (Finset.subset_univ _)

theorem wp_sta0 {α : Type} {Q : α → sProp 𝕄} (f : Buf (Elt F) ((thr d L).loc cc0_scratch2)) (r c : ℕ) (v : S1x16.Idx → F .f32) (z : F .f32) (hv : ∀ i, v i = z)
    (off : Fin 2 → ℕ) (ho : off = ![r, c]) (inb : ∀ a, off a + S1x16.size a ≤ S128x128.size a)
    {hx : ((aS).access (Rect.unit (s := S128x128) off S1x16.size inb)).Stores Finset.univ}
    {hm : (Finset.univ : Finset S1x16.Idx) = Finset.univ ∨ ∀ a, (Rect.unit (s := S128x128) off S1x16.size inb).stride a = 1}
    {p : PUnit → Prog (TpuEff nD τ sig (Elt F) Λ₀ (.scVector (cV L) (jV L))) α} :
    pta d L f ⊢ iprop((pta d L (blk (n := 128) (w := 128) f r c (fun _ => z)) -∗ wp frame (wpE (defs₀ (F := F)) 𝒱₀ (thr d L) none) Set.univ (p ⟨⟩) Q)
      -∗ wp frame (wpE (defs₀ (F := F)) 𝒱₀ (thr d L) none) Set.univ (.op (.store (aS) (Rect.unit (s := S128x128) off S1x16.size inb) v Finset.univ hx hm) p) Q) := by
  have e : ((aS).access (Rect.unit (s := S128x128) off S1x16.size inb)).write (Elt F) f v Finset.univ = blk (n := 128) (w := 128) f r c (fun _ => z) :=
    (View.write_whole_slice_unit cc0_scratch2 off S1x16.size inb f v).trans (upd_blk (n := 128) (w := 128) f r c v z hv off ho _)
  rw [← e]
  exact wp_store (defs := defs₀ (F := F)) 𝒱₀ (thr d L) none Set.univ (Q := Q) (m := (aS : Memref sig .scVector .vmem S128x128 .f32)) (S := Finset.univ) (f := f)
    (r := Rect.unit (s := S128x128) off S1x16.size inb) (w := v) (Mk := Finset.univ) (hx := hx) (hm := hm) (k := p) (Finset.subset_univ _)

theorem wp_ldm {α : Type} {Q : α → sProp 𝕄} (f : Buf (Elt F) ((thr d L).loc cc0_scratch3)) (off : Fin 2 → ℕ)
    (inb : ∀ a, off a + S1x16.size a ≤ S128x128.size a) {hl : (mS).view.LoadsAt (Rect.unit (s := S128x128) off S1x16.size inb).toLoadRect}
    {p : (S1x16.Idx → Elt F .f32) → Prog (TpuEff nD τ sig (Elt F) Λ₀ (.scVector (cV L) (jV L))) α} :
    ptm d L f ⊢ iprop((ptm d L f -∗ wp frame (wpE (defs₀ (F := F)) 𝒱₀ (thr d L) none) Set.univ (p ((mS).view.readAt (Elt F) (Rect.unit (s := S128x128) off S1x16.size inb).toLoadRect f)) Q)
      -∗ wp frame (wpE (defs₀ (F := F)) 𝒱₀ (thr d L) none) Set.univ (.op (.load (mS) (Rect.unit (s := S128x128) off S1x16.size inb).toLoadRect hl) p) Q) :=
  wp_load (defs := defs₀ (F := F)) 𝒱₀ (thr d L) none Set.univ (Q := Q) (m := (mS : Memref sig .scVector .vmem S128x128 .f32)) (S := Finset.univ) (q := fullShare) (f := f)
    (r := (Rect.unit (s := S128x128) off S1x16.size inb).toLoadRect) (hl := hl) (k := p) (Finset.subset_univ _)

theorem wp_stm0 {α : Type} {Q : α → sProp 𝕄} (f : Buf (Elt F) ((thr d L).loc cc0_scratch3)) (r c : ℕ) (v : S1x16.Idx → F .f32) (z : F .f32) (hv : ∀ i, v i = z)
    (off : Fin 2 → ℕ) (ho : off = ![r, c]) (inb : ∀ a, off a + S1x16.size a ≤ S128x128.size a)
    {hx : ((mS).access (Rect.unit (s := S128x128) off S1x16.size inb)).Stores Finset.univ}
    {hm : (Finset.univ : Finset S1x16.Idx) = Finset.univ ∨ ∀ a, (Rect.unit (s := S128x128) off S1x16.size inb).stride a = 1}
    {p : PUnit → Prog (TpuEff nD τ sig (Elt F) Λ₀ (.scVector (cV L) (jV L))) α} :
    ptm d L f ⊢ iprop((ptm d L (blk (n := 128) (w := 128) f r c (fun _ => z)) -∗ wp frame (wpE (defs₀ (F := F)) 𝒱₀ (thr d L) none) Set.univ (p ⟨⟩) Q)
      -∗ wp frame (wpE (defs₀ (F := F)) 𝒱₀ (thr d L) none) Set.univ (.op (.store (mS) (Rect.unit (s := S128x128) off S1x16.size inb) v Finset.univ hx hm) p) Q) := by
  have e : ((mS).access (Rect.unit (s := S128x128) off S1x16.size inb)).write (Elt F) f v Finset.univ = blk (n := 128) (w := 128) f r c (fun _ => z) :=
    (View.write_whole_slice_unit cc0_scratch3 off S1x16.size inb f v).trans (upd_blk (n := 128) (w := 128) f r c v z hv off ho _)
  rw [← e]
  exact wp_store (defs := defs₀ (F := F)) 𝒱₀ (thr d L) none Set.univ (Q := Q) (m := (mS : Memref sig .scVector .vmem S128x128 .f32)) (S := Finset.univ) (f := f)
    (r := Rect.unit (s := S128x128) off S1x16.size inb) (w := v) (Mk := Finset.univ) (hx := hx) (hm := hm) (k := p) (Finset.subset_univ _)

theorem wp_ldn {α : Type} {Q : α → sProp 𝕄} (f : Buf (Elt F) ((thr d L).loc cc0_scratch4)) (off : Fin 2 → ℕ)
    (inb : ∀ a, off a + S1x16.size a ≤ S128x16.size a) {hl : (nS).view.LoadsAt (Rect.unit (s := S128x16) off S1x16.size inb).toLoadRect}
    {p : (S1x16.Idx → Elt F .f32) → Prog (TpuEff nD τ sig (Elt F) Λ₀ (.scVector (cV L) (jV L))) α} :
    ptn d L f ⊢ iprop((ptn d L f -∗ wp frame (wpE (defs₀ (F := F)) 𝒱₀ (thr d L) none) Set.univ (p ((nS).view.readAt (Elt F) (Rect.unit (s := S128x16) off S1x16.size inb).toLoadRect f)) Q)
      -∗ wp frame (wpE (defs₀ (F := F)) 𝒱₀ (thr d L) none) Set.univ (.op (.load (nS) (Rect.unit (s := S128x16) off S1x16.size inb).toLoadRect hl) p) Q) :=
  wp_load (defs := defs₀ (F := F)) 𝒱₀ (thr d L) none Set.univ (Q := Q) (m := (nS : Memref sig .scVector .vmem S128x16 .f32)) (S := Finset.univ) (q := fullShare) (f := f)
    (r := (Rect.unit (s := S128x16) off S1x16.size inb).toLoadRect) (hl := hl) (k := p) (Finset.subset_univ _)

theorem wp_stn0 {α : Type} {Q : α → sProp 𝕄} (f : Buf (Elt F) ((thr d L).loc cc0_scratch4)) (r c : ℕ) (v : S1x16.Idx → F .f32) (z : F .f32) (hv : ∀ i, v i = z)
    (off : Fin 2 → ℕ) (ho : off = ![r, c]) (inb : ∀ a, off a + S1x16.size a ≤ S128x16.size a)
    {hx : ((nS).access (Rect.unit (s := S128x16) off S1x16.size inb)).Stores Finset.univ}
    {hm : (Finset.univ : Finset S1x16.Idx) = Finset.univ ∨ ∀ a, (Rect.unit (s := S128x16) off S1x16.size inb).stride a = 1}
    {p : PUnit → Prog (TpuEff nD τ sig (Elt F) Λ₀ (.scVector (cV L) (jV L))) α} :
    ptn d L f ⊢ iprop((ptn d L (blk (n := 128) (w := 16) f r c (fun _ => z)) -∗ wp frame (wpE (defs₀ (F := F)) 𝒱₀ (thr d L) none) Set.univ (p ⟨⟩) Q)
      -∗ wp frame (wpE (defs₀ (F := F)) 𝒱₀ (thr d L) none) Set.univ (.op (.store (nS) (Rect.unit (s := S128x16) off S1x16.size inb) v Finset.univ hx hm) p) Q) := by
  have e : ((nS).access (Rect.unit (s := S128x16) off S1x16.size inb)).write (Elt F) f v Finset.univ = blk (n := 128) (w := 16) f r c (fun _ => z) :=
    (View.write_whole_slice_unit cc0_scratch4 off S1x16.size inb f v).trans (upd_blk (n := 128) (w := 16) f r c v z hv off ho _)
  rw [← e]
  exact wp_store (defs := defs₀ (F := F)) 𝒱₀ (thr d L) none Set.univ (Q := Q) (m := (nS : Memref sig .scVector .vmem S128x16 .f32)) (S := Finset.univ) (f := f)
    (r := Rect.unit (s := S128x16) off S1x16.size inb) (w := v) (Mk := Finset.univ) (hx := hx) (hm := hm) (k := p) (Finset.subset_univ _)

/-! ## One row of the tables -/

set_option maxHeartbeats 4000000 in
theorem part1 (n : Fin k0_t1_loop.trips) (fa : Buf (Elt F) ((thr d L).loc cc0_scratch2)) (fm : Buf (Elt F) ((thr d L).loc cc0_scratch3)) :
    iprop(pta d L fa ∗ ptm d L fm)
      ⊢ wp frame (wpE (defs₀ (F := F)) 𝒱₀ (thr d L) none) Set.univ
          (k0_part1 L xV (Memref.isWhole_whole _) bV (Memref.isWhole_whole _) aV (Memref.isWhole_whole _) mV (Memref.isWhole_whole _) nV (Memref.isWhole_whole _)
            xS (Memref.isWhole_whole _) bS (Memref.isWhole_whole _) aS (Memref.isWhole_whole _) mS (Memref.isWhole_whole _) nS (Memref.isWhole_whole _)
            cc0_scoped0 cc0_scoped1 cc0_scoped2 cc0_scoped3 cc0_scoped4 cc0_scoped5 cc0_scoped6 (k0_pay79 (F := F)) (k0_pay80 (F := F)) 0#32 1#32 n)
          fun r => iprop(⌜r = ⟨Scf.iv 0#32 1#32 n, k0_pay10 (k0_pay80 (F := F))⟩⌝
            ∗ pta d L (blk (n := 128) (w := 128) (blk (n := 128) (w := 128) (blk (n := 128) (w := 128) (blk (n := 128) (w := 128) (blk (n := 128) (w := 128) (fa) n.val 0 (fun _ => Spec.zero)) n.val 16 (fun _ => Spec.zero)) n.val 32 (fun _ => Spec.zero)) n.val 48 (fun _ => Spec.zero)) n.val 64 (fun _ => Spec.zero))
            ∗ ptm d L (blk (n := 128) (w := 128) (blk (n := 128) (w := 128) (blk (n := 128) (w := 128) (blk (n := 128) (w := 128) (fm) n.val 0 (fun _ => Spec.ninf)) n.val 16 (fun _ => Spec.ninf)) n.val 32 (fun _ => Spec.ninf)) n.val 48 (fun _ => Spec.ninf))) := by
  rw [k0_part1_eq_skeleton]; unfold k0_part1_skel
  iintro ⟨Ha, Hm⟩
  iapply (wp_lda d L _ (k0_off1 n) (k0_off1_inb n) (hl := View.loadsAt_vmem h_S1x16)) $$ Ha
  iintro Ha
  iapply (wp_sta0 d L _ n.val 0 _ Spec.zero (fun _ => rfl) (k0_off1 n) (k0_off1_eq n) (k0_off1_inb n) (hx := View.stores_vmem_bits_univ h_S1x16 rfl) (hm := .inl rfl)) $$ Ha
  iintro Ha
  iapply (wp_ldm d L _ (k0_off1 n) (k0_off1_inb n) (hl := View.loadsAt_vmem h_S1x16)) $$ Hm
  iintro Hm
  iapply (wp_stm0 d L _ n.val 0 _ Spec.ninf (fun _ => rfl) (k0_off1 n) (k0_off1_eq n) (k0_off1_inb n) (hx := View.stores_vmem_bits_univ h_S1x16 rfl) (hm := .inl rfl)) $$ Hm
  iintro Hm
  iapply (wp_lda d L _ (k0_off2 n) (k0_off2_inb n) (hl := View.loadsAt_vmem h_S1x16)) $$ Ha
  iintro Ha
  iapply (wp_sta0 d L _ n.val 16 _ Spec.zero (fun _ => rfl) (k0_off2 n) (k0_off2_eq n) (k0_off2_inb n) (hx := View.stores_vmem_bits_univ h_S1x16 rfl) (hm := .inl rfl)) $$ Ha
  iintro Ha
  iapply (wp_ldm d L _ (k0_off2 n) (k0_off2_inb n) (hl := View.loadsAt_vmem h_S1x16)) $$ Hm
  iintro Hm
  iapply (wp_stm0 d L _ n.val 16 _ Spec.ninf (fun _ => rfl) (k0_off2 n) (k0_off2_eq n) (k0_off2_inb n) (hx := View.stores_vmem_bits_univ h_S1x16 rfl) (hm := .inl rfl)) $$ Hm
  iintro Hm
  iapply (wp_lda d L _ (k0_off3 n) (k0_off3_inb n) (hl := View.loadsAt_vmem h_S1x16)) $$ Ha
  iintro Ha
  iapply (wp_sta0 d L _ n.val 32 _ Spec.zero (fun _ => rfl) (k0_off3 n) (k0_off3_eq n) (k0_off3_inb n) (hx := View.stores_vmem_bits_univ h_S1x16 rfl) (hm := .inl rfl)) $$ Ha
  iintro Ha
  iapply (wp_ldm d L _ (k0_off3 n) (k0_off3_inb n) (hl := View.loadsAt_vmem h_S1x16)) $$ Hm
  iintro Hm
  iapply (wp_stm0 d L _ n.val 32 _ Spec.ninf (fun _ => rfl) (k0_off3 n) (k0_off3_eq n) (k0_off3_inb n) (hx := View.stores_vmem_bits_univ h_S1x16 rfl) (hm := .inl rfl)) $$ Hm
  iintro Hm
  iapply (wp_lda d L _ (k0_off4 n) (k0_off4_inb n) (hl := View.loadsAt_vmem h_S1x16)) $$ Ha
  iintro Ha
  iapply (wp_sta0 d L _ n.val 48 _ Spec.zero (fun _ => rfl) (k0_off4 n) (k0_off4_eq n) (k0_off4_inb n) (hx := View.stores_vmem_bits_univ h_S1x16 rfl) (hm := .inl rfl)) $$ Ha
  iintro Ha
  iapply (wp_ldm d L _ (k0_off4 n) (k0_off4_inb n) (hl := View.loadsAt_vmem h_S1x16)) $$ Hm
  iintro Hm
  iapply (wp_stm0 d L _ n.val 48 _ Spec.ninf (fun _ => rfl) (k0_off4 n) (k0_off4_eq n) (k0_off4_inb n) (hx := View.stores_vmem_bits_univ h_S1x16 rfl) (hm := .inl rfl)) $$ Hm
  iintro Hm
  iapply (wp_lda d L _ (k0_off5 n) (k0_off5_inb n) (hl := View.loadsAt_vmem h_S1x16)) $$ Ha
  iintro Ha
  iapply (wp_sta0 d L _ n.val 64 _ Spec.zero (fun _ => rfl) (k0_off5 n) (k0_off5_eq n) (k0_off5_inb n) (hx := View.stores_vmem_bits_univ h_S1x16 rfl) (hm := .inl rfl)) $$ Ha
  iintro Ha
  iapply (wp_ldm d L _ (k0_off5 n) (k0_off5_inb n) (hl := View.loadsAt_vmem h_S1x16)) $$ Hm
  iintro Hm
  iapply (wp_rt d L)
  isplitr
  · ipureintro
    rfl
  isplitl [Ha]; · iexact Ha
  iexact Hm

/-- Rows below `n` hold `z`. -/
def Upto {α : Type} (n : ℕ) (T : ℕ → Fin 128 → α) (z : α) : Prop := ∀ g < n, T g = fun _ => z

theorem upto_succ {α : Type} {n : ℕ} {T : ℕ → Fin 128 → α} {z : α} (h : Upto n T z) : Upto (n + 1) (fun g => if g = n then (fun _ => z) else T g) z := fun g hg => by
  by_cases e : g = n
  · exact if_pos e
  · exact (if_neg e).trans (h g (by omega))

theorem tab_eta {α : Type} (f : (Spec.SR 128 128).Idx → α) : ∃ T, f = tab 128 T :=
  ⟨fun g c => f (ix2 ⟨g % 128, Nat.mod_lt _ (by decide)⟩ c), funext fun j => by
    have hj : (j 0).val < 128 := (j 0).isLt
    unfold tab
    conv_lhs => rw [← Spec.ix2_eta j]
    congr 2
    exact Fin.ext (Nat.mod_eq_of_lt hj).symm⟩

theorem tab_of_upto {α : Type} {T : ℕ → Fin 128 → α} {z : α} (h : Upto 128 T z) : tab 128 T = tab 128 (fun _ _ => z) :=
  funext fun j => congrFun (h _ (j 0).isLt) (j 1)

theorem trips1 : k0_t1_loop.trips = 128 := by decide +kernel

/-- Before row `n`: the rows above are initialised. -/
def initInv (n : ℕ) : BitVec 32 → sProp 𝕄 := fun _ =>
  iprop(∃ TA TM, ∃ fn : Buf (Elt F) ((thr d L).loc cc0_scratch4), ⌜Upto n TA (Spec.zero (F := F)) ∧ Upto n TM (Spec.ninf (F := F)) ∧ ∀ j : S128x16.Idx, (j 0).val < n → fn j = Spec.zero (F := F)⌝
    ∗ pta d L (tab 128 TA) ∗ ptm d L (tab 128 TM) ∗ ptn d L fn)

set_option maxHeartbeats 4000000 in
theorem init_row (n : Fin k0_t1_loop.trips) (acc : BitVec 32) :
    initInv (F := F) d L n.val acc
      ⊢ wp frame (wpE (defs₀ (F := F)) 𝒱₀ (thr d L) none) Set.univ
          (k0_t1_body L xV (Memref.isWhole_whole _) bV (Memref.isWhole_whole _) aV (Memref.isWhole_whole _) mV (Memref.isWhole_whole _) nV (Memref.isWhole_whole _)
            xS (Memref.isWhole_whole _) bS (Memref.isWhole_whole _) aS (Memref.isWhole_whole _) mS (Memref.isWhole_whole _) nS (Memref.isWhole_whole _)
            cc0_scoped0 cc0_scoped1 cc0_scoped2 cc0_scoped3 cc0_scoped4 cc0_scoped5 cc0_scoped6 n acc)
          (initInv d L (n.val + 1)) := by
  unfold initInv k0_t1_body
  dsimp only
  iintro ⟨%TA, %TM, %fn, %hT, Ha, Hm, Hn⟩
  rw [wp_bind]
  iapply (wp_wand_r frame _ _)
  isplitl [Ha Hm]
  · iapply (part1 d L n _ _)
    isplitl [Ha]; · iexact Ha
    iexact Hm
  iintro %r ⟨%hr, Ha, Hm⟩
  subst hr
  dsimp only
  iapply (wp_stm0 d L _ n.val 64 _ Spec.ninf (fun _ => rfl) (k0_off5 n) (k0_off5_eq n) (k0_off5_inb n) (hx := View.stores_vmem_bits_univ h_S1x16 rfl) (hm := .inl rfl)) $$ Hm
  iintro Hm
  iapply (wp_lda d L _ (k0_off6 n) (k0_off6_inb n) (hl := View.loadsAt_vmem h_S1x16)) $$ Ha
  iintro Ha
  iapply (wp_sta0 d L _ n.val 80 _ Spec.zero (fun _ => rfl) (k0_off6 n) (k0_off6_eq n) (k0_off6_inb n) (hx := View.stores_vmem_bits_univ h_S1x16 rfl) (hm := .inl rfl)) $$ Ha
  iintro Ha
  iapply (wp_ldm d L _ (k0_off6 n) (k0_off6_inb n) (hl := View.loadsAt_vmem h_S1x16)) $$ Hm
  iintro Hm
  iapply (wp_stm0 d L _ n.val 80 _ Spec.ninf (fun _ => rfl) (k0_off6 n) (k0_off6_eq n) (k0_off6_inb n) (hx := View.stores_vmem_bits_univ h_S1x16 rfl) (hm := .inl rfl)) $$ Hm
  iintro Hm
  iapply (wp_lda d L _ (k0_off7 n) (k0_off7_inb n) (hl := View.loadsAt_vmem h_S1x16)) $$ Ha
  iintro Ha
  iapply (wp_sta0 d L _ n.val 96 _ Spec.zero (fun _ => rfl) (k0_off7 n) (k0_off7_eq n) (k0_off7_inb n) (hx := View.stores_vmem_bits_univ h_S1x16 rfl) (hm := .inl rfl)) $$ Ha
  iintro Ha
  iapply (wp_ldm d L _ (k0_off7 n) (k0_off7_inb n) (hl := View.loadsAt_vmem h_S1x16)) $$ Hm
  iintro Hm
  iapply (wp_stm0 d L _ n.val 96 _ Spec.ninf (fun _ => rfl) (k0_off7 n) (k0_off7_eq n) (k0_off7_inb n) (hx := View.stores_vmem_bits_univ h_S1x16 rfl) (hm := .inl rfl)) $$ Hm
  iintro Hm
  iapply (wp_lda d L _ (k0_off8 n) (k0_off8_inb n) (hl := View.loadsAt_vmem h_S1x16)) $$ Ha
  iintro Ha
  iapply (wp_sta0 d L _ n.val 112 _ Spec.zero (fun _ => rfl) (k0_off8 n) (k0_off8_eq n) (k0_off8_inb n) (hx := View.stores_vmem_bits_univ h_S1x16 rfl) (hm := .inl rfl)) $$ Ha
  iintro Ha
  iapply (wp_ldm d L _ (k0_off8 n) (k0_off8_inb n) (hl := View.loadsAt_vmem h_S1x16)) $$ Hm
  iintro Hm
  iapply (wp_stm0 d L _ n.val 112 _ Spec.ninf (fun _ => rfl) (k0_off8 n) (k0_off8_eq n) (k0_off8_inb n) (hx := View.stores_vmem_bits_univ h_S1x16 rfl) (hm := .inl rfl)) $$ Hm
  iintro Hm
  iapply (wp_ldn d L _ (k0_off9 n) (k0_off9_inb n) (hl := View.loadsAt_vmem h_S1x16)) $$ Hn
  iintro Hn
  iapply (wp_stn0 d L _ n.val 0 _ Spec.zero (fun _ => rfl) (k0_off9 n) (k0_off9_eq n) (k0_off9_inb n) (hx := View.stores_vmem_bits_univ h_S1x16 rfl) (hm := .inl rfl)) $$ Hn
  iintro Hn
  iapply (wp_rt d L)
  iexists (fun g => if g = n.val then (fun _ => Spec.zero (F := F)) else TA g), (fun g => if g = n.val then (fun _ => Spec.ninf (F := F)) else TM g), _
  isplitr
  rotate_left
  · isplitl [Ha]
    · iapply (Entails.of_eq (congrArg (pta d L) (Spec.blk_row (n := 128) TA n.val (fun _ => Spec.zero (F := F)))))
      iexact Ha
    isplitl [Hm]
    · iapply (Entails.of_eq (congrArg (ptm d L) (Spec.blk_row (n := 128) TM n.val (fun _ => Spec.ninf (F := F)))))
      iexact Hm
    iexact Hn
  · ipureintro
    refine ⟨upto_succ hT.1, upto_succ hT.2.1, fun j hj => ?_⟩
    have h1 : (j 1).val < 16 := (j 1).isLt
    unfold blk
    split
    · rfl
    · next hc => exact hT.2.2 j (by omega)

theorem init_loop (fa : Buf (Elt F) ((thr d L).loc cc0_scratch2)) (fm : Buf (Elt F) ((thr d L).loc cc0_scratch3)) (fn : Buf (Elt F) ((thr d L).loc cc0_scratch4)) :
    iprop(pta d L fa ∗ ptm d L fm ∗ ptn d L fn)
      ⊢ wp frame (wpE (defs₀ (F := F)) 𝒱₀ (thr d L) none) Set.univ
          (Scf.Loop.for k0_t1_loop k0_t1_ok 0#32 (k0_t1_body L xV (Memref.isWhole_whole _) bV (Memref.isWhole_whole _) aV (Memref.isWhole_whole _) mV (Memref.isWhole_whole _) nV (Memref.isWhole_whole _)
            xS (Memref.isWhole_whole _) bS (Memref.isWhole_whole _) aS (Memref.isWhole_whole _) mS (Memref.isWhole_whole _) nS (Memref.isWhole_whole _)
            cc0_scoped0 cc0_scoped1 cc0_scoped2 cc0_scoped3 cc0_scoped4 cc0_scoped5 cc0_scoped6))
          fun _ => iprop(pta d L (tab 128 (St.init (F := F)).A) ∗ ptm d L (tab 128 (St.init (F := F)).M) ∗ ptn d L (ctab 128 (St.init (F := F)).C)) := by
  obtain ⟨TA, rfl⟩ := tab_eta fa
  obtain ⟨TM, rfl⟩ := tab_eta fm
  iintro ⟨Ha, Hm, Hn⟩
  iapply (Scf.wp_for frame _ _ _ _ _ k0_t1_ok 0#32 _ (initInv (F := F) d L) (init_row (F := F) d L))
  isplitl [Ha Hm Hn]
  · unfold initInv
    iexists TA, TM, fn
    isplitr
    · ipureintro
      exact ⟨fun _ h => absurd h (Nat.not_lt_zero _), fun _ h => absurd h (Nat.not_lt_zero _), fun _ h => absurd h (Nat.not_lt_zero _)⟩
    isplitl [Ha]; · iexact Ha
    isplitl [Hm]; · iexact Hm
    iexact Hn
  iintro %acc HI
  unfold initInv
  icases HI with ⟨%TA', %TM', %fn', %hT, Ha, Hm, Hn⟩
  have hT' := hT
  rw [show Scf.trips k0_t1_loop.1 k0_t1_loop.2 k0_t1_loop.3 = 128 from trips1] at hT'
  isplitl [Ha]
  · iapply (Entails.of_eq (congrArg (pta d L) (tab_of_upto hT'.1)))
    iexact Ha
  isplitl [Hm]
  · iapply (Entails.of_eq (congrArg (ptm d L) (tab_of_upto hT'.2.1)))
    iexact Hm
  iapply (Entails.of_eq (congrArg (ptn d L) (show fn' = ctab 128 (fun _ => Spec.zero (F := F)) from funext fun j => hT'.2.2 j (j 0).isLt)))
  iexact Hn

end Cert.Proof.KI

end
-- ==== Proof.KIChunk.lean ====
/-
  A chunk's two copies in and its rows, and the loop over a tile's chunks.
-/
module

public import proofs.«01_k».proof.Proof.KIInit
public import Idealize.ShloMosaic.Lib.Pipeline.Value

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec (vec blk tab ctab ix1 ix2 St)

variable {F : FTy → Type} [FloatOps F]

local notation "𝕄" => MT nD τ sig (HIx 1) (Elt F) ℕ UU ℕ

variable (m : (ℓ : Loc nD τ sig) → Buf (Elt F) ℓ) (d : Dev nD) (L : grid0.Coords)

/-- The tile's number. -/
abbrev wn (L : grid0.Coords) : ℕ := 2 * (L 1).val + (L 0).val

/-- The tile's state after `n` of its rows. -/
abbrev stt (n : ℕ) : St F := Spec.tileAt (B m d) (X m d) (wn L) n

/-! ## The rows of a chunk -/

abbrev tabs (s : St F) : sProp 𝕄 := iprop(pta d L (tab 128 s.A) ∗ ptm d L (tab 128 s.M) ∗ ptn d L (ctab 128 s.C))

def rowInv (k : ℕ) (fx : Buf (Elt F) ((thr d L).loc cc0_scratch0)) (fb : Buf (Elt F) ((thr d L).loc cc0_scratch1)) (n : ℕ)
    (acc : IVec S16 32 × FVec F S16 .f32 × FVec F S16 .f32 × FVec F S16 .f32 × FVec F S16 .f32 × FVec F S16 .f32 × FVec F S16 .f32 × FVec F S16 .f32 × FVec F S16 .f32
    × FVec F S16 .f32 × FVec F S16 .f32 × FVec F S16 .f32 × FVec F S16 .f32 × FVec F S16 .f32 × FVec F S16 .f32 × FVec F S16 .f32 × FVec F S16 .f32 × FVec F S16 .f32) : sProp 𝕄 :=
  iprop(⌜acc = pack (stt m d L (200 * k + n))⌝ ∗ ptx d L fx ∗ ptb d L fb ∗ tabs d L (stt m d L (200 * k + n)))

theorem row_step (hpre : PreOK m) (k : ℕ) (fx : Buf (Elt F) ((thr d L).loc cc0_scratch0)) (fb : Buf (Elt F) ((thr d L).loc cc0_scratch1))
    (hfx : ∀ r : Fin 200, (fun j => fx (ix2 r j)) = Spec.xOf (X m d) (wn L) (200 * k + r.val))
    (hfb : ∀ r : Fin 200, fb (ix1 r) = Spec.bOf (B m d) (wn L) (200 * k + r.val)) (n : Fin k0_t3_loop.trips) (acc) :
    rowInv m d L k fx fb n.val acc
      ⊢ wp frame (wpE (defs₀ (F := F)) 𝒱₀ (thr d L) none) Set.univ
          (k0_t3_body L xV (Memref.isWhole_whole _) bV (Memref.isWhole_whole _) aV (Memref.isWhole_whole _) mV (Memref.isWhole_whole _) nV (Memref.isWhole_whole _)
            xS (Memref.isWhole_whole _) bS (Memref.isWhole_whole _) aS (Memref.isWhole_whole _) mS (Memref.isWhole_whole _) nS (Memref.isWhole_whole _)
            cc0_scoped0 cc0_scoped1 cc0_scoped2 cc0_scoped3 cc0_scoped4 cc0_scoped5 cc0_scoped6 lanes n acc)
          (rowInv m d L k fx fb (n.val + 1)) := by
  unfold rowInv
  iintro ⟨%hacc, Hx, Hb, Ha, Hm, Hn⟩
  subst hacc
  iapply (wp_wand_r frame _ _)
  isplitl [Hx Hb Ha Hm Hn]
  · iapply (row d L (stt m d L (200 * k + n.val)) n fx fb (by rw [hfb]; exact hpre d _))
    isplitl [Hx]; · iexact Hx
    isplitl [Hb]; · iexact Hb
    isplitl [Ha]; · iexact Ha
    isplitl [Hm]; · iexact Hm
    iexact Hn
  have e : (stt m d L (200 * k + n.val)).step (fb (ix1 (rw3 n))) (fun j => fx (ix2 (rw3 n) j)) = stt m d L (200 * k + (n.val + 1)) := by
    rw [hfx, hfb]; rfl
  rw [e]
  iintro %r H
  iexact H

theorem row_loop (hpre : PreOK m) (k : ℕ) (fx : Buf (Elt F) ((thr d L).loc cc0_scratch0)) (fb : Buf (Elt F) ((thr d L).loc cc0_scratch1))
    (hfx : ∀ r : Fin 200, (fun j => fx (ix2 r j)) = Spec.xOf (X m d) (wn L) (200 * k + r.val))
    (hfb : ∀ r : Fin 200, fb (ix1 r) = Spec.bOf (B m d) (wn L) (200 * k + r.val)) :
    iprop(ptx d L fx ∗ ptb d L fb ∗ tabs d L (stt m d L (200 * k)))
      ⊢ wp frame (wpE (defs₀ (F := F)) 𝒱₀ (thr d L) none) Set.univ
          (Scf.Loop.for k0_t3_loop k0_t3_ok (pack (stt m d L (200 * k))) (k0_t3_body L xV (Memref.isWhole_whole _) bV (Memref.isWhole_whole _) aV (Memref.isWhole_whole _) mV (Memref.isWhole_whole _) nV (Memref.isWhole_whole _)
            xS (Memref.isWhole_whole _) bS (Memref.isWhole_whole _) aS (Memref.isWhole_whole _) mS (Memref.isWhole_whole _) nS (Memref.isWhole_whole _)
            cc0_scoped0 cc0_scoped1 cc0_scoped2 cc0_scoped3 cc0_scoped4 cc0_scoped5 cc0_scoped6 lanes))
          fun acc => iprop(⌜acc = pack (stt m d L (200 * (k + 1)))⌝ ∗ ptx d L fx ∗ ptb d L fb ∗ tabs d L (stt m d L (200 * (k + 1)))) := by
  iintro ⟨Hx, Hb, Ht⟩
  iapply (Scf.wp_for frame _ _ _ _ _ k0_t3_ok _ _ (rowInv m d L k fx fb) (row_step m d L hpre k fx fb hfx hfb))
  isplitl [Hx Hb Ht]
  · unfold rowInv
    isplitr
    · ipureintro
      rfl
    isplitl [Hx]; · iexact Hx
    isplitl [Hb]; · iexact Hb
    iexact Ht
  rw [show Scf.trips k0_t3_loop.1 k0_t3_loop.2 k0_t3_loop.3 = 200 from trips3]
  unfold rowInv
  iintro %acc HI
  iexact HI

/-! ## The copies in -/

theorem trips2 : ∀ i : grid0.Coords, (k0_t2_loop i).trips = Spec.cn (2 * (i 1).val + (i 0).val) := by decide +kernel
theorem off10 : ∀ (i : grid0.Coords) (k : Fin (k0_t2_loop i).trips), k0_off10 i k = ![200 * (Spec.c0 (2 * (i 1).val + (i 0).val) + k.val), 0] := by decide +kernel
theorem off11 : ∀ (i : grid0.Coords) (k : Fin (k0_t2_loop i).trips), k0_off11 i k = ![200 * (Spec.c0 (2 * (i 1).val + (i 0).val) + k.val)] := by decide +kernel

abbrev xsrc (k : Fin (k0_t2_loop L).trips) : Memref sig .scVector .hbm S200x128 .f32 :=
  (xV).slice (Rect.unit (s := S100000x128) (k0_off10 L k) S200x128.size (k0_off10_inb L k)) (fun _ => rfl)
abbrev bsrc (k : Fin (k0_t2_loop L).trips) : Memref sig .scVector .hbm S200 .i32 :=
  (bV).slice (Rect.unit (s := S100000) (k0_off11 L k) S200.size (k0_off11_inb L k)) (fun _ => rfl)

/-- What the copies leave: the chunk's rows and their segments. -/
theorem xread (k : Fin (k0_t2_loop L).trips) (r : Fin 200) :
    (fun j => ((xsrc L k).view.read (Elt F) (X m d) : S200x128.Idx → F .f32) (ix2 r j)) = Spec.xOf (X m d) (wn L) (200 * k.val + r.val) := by
  funext j
  have hb := k0_off10_inb L k 0
  have ho := congrFun (off10 L k) 0
  have ho1 := congrFun (off10 L k) 1
  have hb' : k0_off10 L k 0 + 200 ≤ 100000 := hb
  have ho' : k0_off10 L k 0 = 200 * (Spec.c0 (wn L) + k.val) := ho
  have ho1' : k0_off10 L k 1 = 0 := ho1
  show m (xLoc d) _ = m (xLoc d) _
  congr 1
  funext a
  match a with
  | 0 =>
    refine Fin.ext ?_
    show k0_off10 L k 0 + 1 * r.val = (200 * Spec.c0 (wn L) + (200 * k.val + r.val)) % 100000
    have := r.isLt
    omega
  | 1 =>
    refine Fin.ext ?_
    show k0_off10 L k 1 + 1 * j.val = j.val
    omega

theorem bread (k : Fin (k0_t2_loop L).trips) (r : Fin 200) :
    ((bsrc L k).view.read (Elt F) (B m d) : S200.Idx → BitVec 32) (ix1 r) = Spec.bOf (B m d) (wn L) (200 * k.val + r.val) := by
  have hb := k0_off11_inb L k 0
  have ho := congrFun (off11 L k) 0
  have hb' : k0_off11 L k 0 + 200 ≤ 100000 := hb
  have ho' : k0_off11 L k 0 = 200 * (Spec.c0 (wn L) + k.val) := ho
  show m (bLoc d) _ = m (bLoc d) _
  congr 1
  funext a
  match a with
  | 0 =>
    refine Fin.ext ?_
    show k0_off11 L k 0 + 1 * r.val = (200 * Spec.c0 (wn L) + (200 * k.val + r.val)) % 100000
    have := r.isLt
    omega

/-! ## A chunk -/

abbrev Acc (F : FTy → Type) : Type := IVec S16 32 × FVec F S16 .f32 × FVec F S16 .f32 × FVec F S16 .f32 × FVec F S16 .f32 × FVec F S16 .f32 × FVec F S16 .f32 × FVec F S16 .f32 × FVec F S16 .f32
    × FVec F S16 .f32 × FVec F S16 .f32 × FVec F S16 .f32 × FVec F S16 .f32 × FVec F S16 .f32 × FVec F S16 .f32 × FVec F S16 .f32 × FVec F S16 .f32 × FVec F S16 .f32

def chunkRes (q : PosShare TreeShare) (O : CellTallies nD τ sig (HIx 1)) (W : Waits sig (HIx 1)) (k : ℕ) : sProp 𝕄 :=
  iprop(Transfers.MayWaits (thr d L) (none : HIx 1) O
    ∗ ((xV).view.loc (thr d L) ↦{q} X m d) ∗ ((bV).view.loc (thr d L) ↦{q} B m d)
    ∗ (∃ fx, (xS).view.loc (thr d L) ↦{fullShare} fx) ∗ (∃ fb, (bS).view.loc (thr d L) ↦{fullShare} fb)
    ∗ tabs d L (stt m d L (200 * k))
    ∗ semVal (cell d L s0) 0 ∗ semVal (cell d L s1) 0
    ∗ ∃ W', ⌜∀ p ∈ W', p ∈ W ∨ p.2 = none⌝ ∗ owes (thr d L) O W')

def chunkInv (q : PosShare TreeShare) (O : CellTallies nD τ sig (HIx 1)) (W : Waits sig (HIx 1)) (k : ℕ) (acc : Acc F) : sProp 𝕄 :=
  iprop(⌜acc = pack (stt m d L (200 * k))⌝ ∗ chunkRes m d L q O W k)

set_option maxHeartbeats 4000000 in
theorem chunk (hpre : PreOK m) (q : PosShare TreeShare) (O : CellTallies nD τ sig (HIx 1)) (W : Waits sig (HIx 1)) (k : Fin (k0_t2_loop L).trips) (acc : Acc F) :
    chunkInv m d L q O W k.val acc
      ⊢ wp frame (wpE (defs₀ (F := F)) 𝒱₀ (thr d L) none) Set.univ
          (k0_t2_body L xV (Memref.isWhole_whole _) bV (Memref.isWhole_whole _) aV (Memref.isWhole_whole _) mV (Memref.isWhole_whole _) nV (Memref.isWhole_whole _)
            xS (Memref.isWhole_whole _) bS (Memref.isWhole_whole _) aS (Memref.isWhole_whole _) mS (Memref.isWhole_whole _) nS (Memref.isWhole_whole _)
            cc0_scoped0 cc0_scoped1 cc0_scoped2 cc0_scoped3 cc0_scoped4 cc0_scoped5 cc0_scoped6 lanes k acc)
          (chunkInv m d L q O W (k.val + 1)) := by
  unfold chunkInv k0_t2_body
  iintro ⟨%hacc, HI⟩
  subst hacc
  unfold pack
  dsimp only
  unfold chunkRes
  icases HI with ⟨Hmw, Hxs, Hbs, ⟨%fx, Hx⟩, ⟨%fb, Hb⟩, Ht, Hs0, Hs1, %W', %hW', HO⟩
  sl_exec (disch := first | exact View.amount_pos _ _ (show 0 < S200x128.numel by decide) | exact View.amount_pos _ _ (show 0 < S200.numel by decide))
  have ex : View.write (Elt F) (xS).view fx (chunk.sl.dma0 m d L k) Finset.univ = (xsrc L k).view.read (Elt F) (X m d) :=
    View.write_whole_univ (Val := Elt F) cc0_scratch0 fx ((xsrc L k).view.read (Elt F) (X m d))
  have eb : View.write (Elt F) (bS).view fb (chunk.sl.dma0_1 m d L k) Finset.univ = (bsrc L k).view.read (Elt F) (B m d) :=
    View.write_whole_univ (Val := Elt F) cc0_scratch1 fb ((bsrc L k).view.read (Elt F) (B m d))
  rw [ex, eb]
  rw [wp_bind]
  iapply (wp_wand_r frame _ _)
  isplitl [Hx Hb Ht]
  · iapply (row_loop m d L hpre k.val _ _ (xread m d L k) (bread m d L k))
    isplitl [Hx]; · iexact Hx
    isplitl [Hb]; · iexact Hb
    iexact Ht
  iintro %r ⟨%hr, Hx, Hb, Ht⟩
  subst hr
  iapply (wp_rt d L)
  isplitr
  · ipureintro
    rfl
  isplitl [Hmw]; · iexact Hmw
  isplitl [Hxs]; · iexact Hxs
  isplitl [Hbs]; · iexact Hbs
  isplitl [Hx]; · iexists _; iexact Hx
  isplitl [Hb]; · iexists _; iexact Hb
  isplitl [Ht]; · iexact Ht
  isplitl [Hs0]; · iexact Hs0
  isplitl [Hs1]; · iexact Hs1
  iexists _
  isplitr
  rotate_left
  · iexact HO
  · ipureintro
    intro p hp
    rcases Finset.mem_insert.mp hp with hp | hp
    · exact .inr (hp ▸ rfl)
    rcases Finset.mem_insert.mp hp with hp | hp
    · exact .inr (hp ▸ rfl)
    · exact hW' p hp

theorem chunk_loop (hpre : PreOK m) (q : PosShare TreeShare) (O : CellTallies nD τ sig (HIx 1)) (W : Waits sig (HIx 1)) :
    chunkRes m d L q O W 0
      ⊢ wp frame (wpE (defs₀ (F := F)) 𝒱₀ (thr d L) none) Set.univ
          (Scf.Loop.for (k0_t2_loop L) (k0_t2_ok L) (pack (St.init (F := F))) (k0_t2_body L xV (Memref.isWhole_whole _) bV (Memref.isWhole_whole _) aV (Memref.isWhole_whole _) mV (Memref.isWhole_whole _) nV (Memref.isWhole_whole _)
            xS (Memref.isWhole_whole _) bS (Memref.isWhole_whole _) aS (Memref.isWhole_whole _) mS (Memref.isWhole_whole _) nS (Memref.isWhole_whole _)
            cc0_scoped0 cc0_scoped1 cc0_scoped2 cc0_scoped3 cc0_scoped4 cc0_scoped5 cc0_scoped6 lanes))
          fun acc => iprop(⌜acc = pack (Spec.tile (B m d) (X m d) (wn L))⌝ ∗ chunkRes m d L q O W (Spec.cn (wn L))) := by
  iintro H
  iapply (Scf.wp_for frame _ _ _ _ _ (k0_t2_ok L) _ _ (chunkInv m d L q O W) (chunk m d L hpre q O W))
  isplitl [H]
  · unfold chunkInv
    isplitr
    · ipureintro
      rfl
    iexact H
  rw [show Scf.trips (k0_t2_loop L).1 (k0_t2_loop L).2 (k0_t2_loop L).3 = Spec.cn (wn L) from trips2 L]
  unfold chunkInv
  iintro %acc HI
  iexact HI

/-- The second loop over chunks takes none. -/
theorem none_loop (acc : Acc F) {Q : Acc F → sProp 𝕄} :
    Q acc ⊢ wp frame (wpE (defs₀ (F := F)) 𝒱₀ (thr d L) none) Set.univ
          (Scf.Loop.for (k0_t4_loop L) (k0_t4_ok L) acc (k0_t4_body L xV (Memref.isWhole_whole _) bV (Memref.isWhole_whole _) aV (Memref.isWhole_whole _) mV (Memref.isWhole_whole _) nV (Memref.isWhole_whole _)
            xS (Memref.isWhole_whole _) bS (Memref.isWhole_whole _) aS (Memref.isWhole_whole _) mS (Memref.isWhole_whole _) nS (Memref.isWhole_whole _)
            cc0_scoped0 cc0_scoped1 cc0_scoped2 cc0_scoped3 cc0_scoped4 cc0_scoped5 cc0_scoped6 lanes)) Q := by
  have h0 : (k0_t4_loop L).trips = 0 := Nat.le_zero.mp (k0_t4_abs L).2.1
  iintro H
  iapply (Scf.wp_for frame _ _ _ _ _ (k0_t4_ok L) _ _ (fun _ a => iprop(⌜a = acc⌝ ∗ Q acc)) (fun k _ => absurd (lt_of_lt_of_eq k.isLt h0) (Nat.not_lt_zero _)))
  isplitl [H]
  · isplitr
    · ipureintro
      rfl
    iexact H
  iintro %a ⟨%ha, H⟩
  subst ha
  iexact H

end Cert.Proof.KI

end
-- ==== Proof.KITile.lean ====
/-
  A tile's whole task: its tables are cleared, its chunks summed up, and the three tables copied to its slabs.
-/
module

public import proofs.«01_k».proof.Proof.KIChunk
public import Idealize.ShloMosaic.Lib.Pipeline.Value

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec (vec blk tab ctab ix1 ix2 St)

variable {F : FTy → Type} [FloatOps F]

local notation "𝕄" => MT nD τ sig (HIx 1) (Elt F) ℕ UU ℕ

variable (m : (ℓ : Loc nD τ sig) → Buf (Elt F) ℓ) (d : Dev nD) (L : grid0.Coords)

/-! ## A tile's slabs, as the task addresses them -/

theorem wn_lt (L : grid0.Coords) : wn L < 32 := by
  have h0 : (L 0).val < 2 := (L 0).isLt
  have h1 : (L 1).val < 16 := (L 1).isLt
  show 2 * (L 1).val + (L 0).val < 32
  omega

/-- The tile's number among the 32. -/
abbrev wL (L : grid0.Coords) : Fin 32 := ⟨wn L, wn_lt L⟩

abbrev arowK (L : grid0.Coords) : Rect S32x128x128 := Rect.unit (s := S32x128x128) (k0_off30 L) S1x128x128.size (k0_off30_inb L)
abbrev crowK (L : grid0.Coords) : Rect S32x128x16 := Rect.unit (s := S32x128x16) (k0_off31 L) S1x128x16.size (k0_off31_inb L)
abbrev aRowK (L : grid0.Coords) : Memref sig .scVector .hbm S128x128 .f32 := ((aV).slice (arowK L) (fun _ => rfl)).squeeze S128x128 squeezes_S1x128x128_S128x128
abbrev mRowK (L : grid0.Coords) : Memref sig .scVector .hbm S128x128 .f32 := ((mV).slice (arowK L) (fun _ => rfl)).squeeze S128x128 squeezes_S1x128x128_S128x128
abbrev cRowK (L : grid0.Coords) : Memref sig .scVector .hbm S128x16 .f32 := ((nV).slice (crowK L) (fun _ => rfl)).squeeze S128x16 squeezes_S1x128x16_S128x16

theorem arowK_eq : arowK L = aslab (wL L) := by
  unfold arowK aslab Rect.part Rect.block
  congr 1 <;> funext a
  · rw [k0_off30_eq]
    match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem crowK_eq : crowK L = cslab (wL L) := by
  unfold crowK cslab Rect.part Rect.block
  congr 1 <;> funext a
  · rw [k0_off31_eq]
    match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem set_aRowK : (aRowK L).view.set = aSet (wL L) := by
  show (((aV).view.slice (arowK L)).reshape S128x128 squeezes_S1x128x128_S128x128.numel_eq).set = _
  rw [View.set_reshape, View.set_slice]
  exact Finset.map_refl.trans (by rw [arowK_eq L])
theorem set_mRowK : (mRowK L).view.set = aSet (wL L) := by
  show (((mV).view.slice (arowK L)).reshape S128x128 squeezes_S1x128x128_S128x128.numel_eq).set = _
  rw [View.set_reshape, View.set_slice]
  exact Finset.map_refl.trans (by rw [arowK_eq L])
theorem set_cRowK : (cRowK L).view.set = cSet (wL L) := by
  show (((nV).view.slice (crowK L)).reshape S128x16 squeezes_S1x128x16_S128x16.numel_eq).set = _
  rw [View.set_reshape, View.set_slice]
  exact Finset.map_refl.trans (by rw [crowK_eq L])

theorem pts_aRowK (f : Buf (Elt F) (aLoc d)) :
    ((aRowK L).view.loc (thr d L) ↦[(aRowK L).view.set]{fullShare} f : sProp 𝕄) = aLoc d ↦[aSet (wL L)]{fullShare} f := by
  rw [set_aRowK]
theorem pts_mRowK (f : Buf (Elt F) (mLoc d)) :
    ((mRowK L).view.loc (thr d L) ↦[(mRowK L).view.set]{fullShare} f : sProp 𝕄) = mLoc d ↦[aSet (wL L)]{fullShare} f := by
  rw [set_mRowK]
theorem pts_cRowK (f : Buf (Elt F) (cLoc d)) :
    ((cRowK L).view.loc (thr d L) ↦[(cRowK L).view.set]{fullShare} f : sProp 𝕄) = cLoc d ↦[cSet (wL L)]{fullShare} f := by
  rw [set_cRowK]

theorem pts_aS (f : Buf (Elt F) ((thr d L).loc cc0_scratch2)) : ((aS).view.loc (thr d L) ↦{fullShare} f : sProp 𝕄) = pta d L f := rfl
theorem pts_mS (f : Buf (Elt F) ((thr d L).loc cc0_scratch3)) : ((mS).view.loc (thr d L) ↦{fullShare} f : sProp 𝕄) = ptm d L f := rfl
theorem pts_nS (f : Buf (Elt F) ((thr d L).loc cc0_scratch4)) : ((nS).view.loc (thr d L) ↦{fullShare} f : sProp 𝕄) = ptn d L f := rfl

/-! ## What the slabs hold -/

/-- Written with what it reads of `g`, a view's buffer agrees with `g` on the view. -/
theorem write_read_on {κ : Kind} {cs : Space} {s : Shape} {e : EltTy} (v : View sig κ cs s e) (f g : v.ty.Contents (Elt F)) :
    ∀ j ∈ v.set, v.write (Elt F) f (v.read (Elt F) g) Finset.univ j = g j := by
  intro j hj
  obtain ⟨x, -, rfl⟩ := Finset.mem_map.mp hj
  rw [View.write_emb_of_mem f _ (Finset.mem_univ x), View.read_apply]
  simp

/-- A tile's table at equal places. -/
theorem at_congr (T : ℕ → ℕ → Fin 128 → F .f32) {w w' g g' : ℕ} {j j' : Fin 128} (hw : w = w') (hg : g = g') (hj : j.val = j'.val) : T w g j = T w' g' j' := by
  subst hw hg
  rw [Fin.ext hj]
theorem at_congr_cnt (T : ℕ → ℕ → F .f32) {w w' g g' : ℕ} (hw : w = w') (hg : g = g') : T w g = T w' g' := by
  subst hw hg
  rfl

/-- The same of the copy's own account of what it wrote: the whole view, once. -/
theorem writes_read_on {κ : Kind} {cs : Space} {s : Shape} {e : EltTy} (v : View sig κ cs s e) (f g : v.ty.Contents (Elt F)) (w : s.Idx → Elt F e)
    (hw : v.read (Elt F) g = w) : ∀ j ∈ v.set, v.writes (Elt F) f [⟨Rect.whole s, w⟩] j = g j := by
  intro j hj
  subst hw
  rw [← View.write_univ_eq_writes_whole, View.writes_nil]
  exact write_read_on v f g j hj

theorem read_aRowK : (aRowK L).view.read (Elt F) (oA m d) = tab 128 (Spec.tile (B m d) (X m d) (wn L)).A := by
  have ho := k0_off30_eq L
  funext j
  have h0 : k0_off30 L 0 = wn L := congrFun ho 0
  have h1 : k0_off30 L 1 = 0 := congrFun ho 1
  have h2 : k0_off30 L 2 = 0 := congrFun ho 2
  refine (congrFun (Memref.read_squeeze_slice (Val := Elt F) aV (arowK L) (fun _ => rfl) squeezes_S1x128x128_S128x128 (show S1x128x128.ShapeCasts S128x128 by decide) (oA m d)) j).trans ?_
  refine (shapeCast_dropUnit_apply ![128, 128] _ _ j).trans ?_
  refine at_congr (fun w => (Spec.tile (B m d) (X m d) w).A) ?_ ?_ ?_
  · show k0_off30 L 0 + 1 * 0 = wn L
    omega
  · show k0_off30 L 1 + 1 * (j 0).val = (j 0).val
    omega
  · show k0_off30 L 2 + 1 * (j 1).val = (j 1).val
    omega

theorem read_mRowK : (mRowK L).view.read (Elt F) (oM m d) = tab 128 (Spec.tile (B m d) (X m d) (wn L)).M := by
  have ho := k0_off30_eq L
  funext j
  have h0 : k0_off30 L 0 = wn L := congrFun ho 0
  have h1 : k0_off30 L 1 = 0 := congrFun ho 1
  have h2 : k0_off30 L 2 = 0 := congrFun ho 2
  refine (congrFun (Memref.read_squeeze_slice (Val := Elt F) mV (arowK L) (fun _ => rfl) squeezes_S1x128x128_S128x128 (show S1x128x128.ShapeCasts S128x128 by decide) (oM m d)) j).trans ?_
  refine (shapeCast_dropUnit_apply ![128, 128] _ _ j).trans ?_
  refine at_congr (fun w => (Spec.tile (B m d) (X m d) w).M) ?_ ?_ ?_
  · show k0_off30 L 0 + 1 * 0 = wn L
    omega
  · show k0_off30 L 1 + 1 * (j 0).val = (j 0).val
    omega
  · show k0_off30 L 2 + 1 * (j 1).val = (j 1).val
    omega

theorem read_cRowK : (cRowK L).view.read (Elt F) (oC m d) = ctab 128 (Spec.tile (B m d) (X m d) (wn L)).C := by
  have ho := k0_off31_eq L
  funext j
  have h0 : k0_off31 L 0 = wn L := congrFun ho 0
  have h1 : k0_off31 L 1 = 0 := congrFun ho 1
  have h2 : k0_off31 L 2 = 0 := congrFun ho 2
  refine (congrFun (Memref.read_squeeze_slice (Val := Elt F) nV (crowK L) (fun _ => rfl) squeezes_S1x128x16_S128x16 (show S1x128x16.ShapeCasts S128x16 by decide) (oC m d)) j).trans ?_
  refine (shapeCast_dropUnit_apply ![128, 16] _ _ j).trans ?_
  refine at_congr_cnt (fun w => (Spec.tile (B m d) (X m d) w).C) ?_ ?_
  · show k0_off31 L 0 + 1 * 0 = wn L
    omega
  · show k0_off31 L 1 + 1 * (j 0).val = (j 0).val
    omega

set_option maxHeartbeats 4000000 in
/-- The task of one tile: it takes its shares of the inputs and its slabs, and brings the slabs back at its state after its last row. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goW m d (wL L)
        ∗ scopedBufs (thr d L) ∗ scopedSems0 (thr d L) ∗ owes (thr d L) O W)
      ⊢ wp frame (wpE (defs₀ (F := F)) 𝒱₀ (thr d L) none) Set.univ
          (cc0_k L xV (Memref.isWhole_whole _) bV (Memref.isWhole_whole _) aV (Memref.isWhole_whole _) mV (Memref.isWhole_whole _) nV (Memref.isWhole_whole _)
            xS (Memref.isWhole_whole _) bS (Memref.isWhole_whole _) aS (Memref.isWhole_whole _) mS (Memref.isWhole_whole _) nS (Memref.isWhole_whole _)
            cc0_scoped0 cc0_scoped1 cc0_scoped2 cc0_scoped3 cc0_scoped4 cc0_scoped5 cc0_scoped6)
          fun _ => iprop(tdW m d (wL L) ∗ scopedBufs (thr d L) ∗ scopedSems0 (thr d L)
            ∗ ∃ W', ⌜∀ p ∈ W', p ∈ W ∨ p.2 = none⌝ ∗ owes (thr d L) O W') := by
  simp only [cc0_k_eq_skeleton]; unfold cc0_k_skel
  simp only [k0_part6_eq_skeleton]; unfold k0_part6_skel
  rw [(K (F := F)).scopedBufs_V hF d (cV L) (jV L), SparseCore.Cfg.scopedSems0_V (Val := Elt F) d (cV L) (jV L), ownSems0_V, ownBufs_V]
  iintro ⟨#Hlv, -, ⟨Hx, Hb, Ha, Hm, Hn⟩, ⟨⟨%fx, Hxs⟩, ⟨%fb, Hbs⟩, ⟨%fa, Has⟩, ⟨%fm, Hms⟩, ⟨%fn, Hns⟩, Hbufs⟩, ⟨Hs0, Hs1, Hs4, Hs5, Hs6, Hsems⟩, HO⟩
  ihave Hmw := (show levAts (K (F := F)).L (K (F := F)).lev ⊢ Transfers.MayWaits (thr d L) (none : HIx 1) O from
    (K (F := F)).mayWaits_none (thr := thr d L) hO) $$ Hlv
  rw [wp_bind]
  rw [wp_bind]
  iapply (wp_wand_r frame _ _)
  isplitl [Has Hms Hns]
  · iapply (init_loop d L fa fm fn)
    isplitl [Has]; · iexact Has
    isplitl [Hms]; · iexact Hms
    iexact Hns
  iintro %r ⟨Has, Hms, Hns⟩
  rw [wp_bind]
  iapply (wp_wand_r frame _ _)
  isplitl [Hmw Hx Hb Hxs Hbs Has Hms Hns Hs0 Hs1 HO]
  · iapply (chunk_loop m d L hpre (sh (wL L)) O W)
    unfold chunkRes
    isplitl [Hmw]; · iexact Hmw
    isplitl [Hx]; · iexact Hx
    isplitl [Hb]; · iexact Hb
    isplitl [Hxs]; · iexists _; iexact Hxs
    isplitl [Hbs]; · iexists _; iexact Hbs
    isplitl [Has Hms Hns]
    · isplitl [Has]; · iexact Has
      isplitl [Hms]; · iexact Hms
      iexact Hns
    isplitl [Hs0]; · iexact Hs0
    isplitl [Hs1]; · iexact Hs1
    iexists W
    isplitr
    · ipureintro
      exact fun p hp => .inl hp
    iexact HO
  iintro %acc ⟨%hacc, HI⟩
  subst hacc
  unfold pack
  dsimp only
  rw [wp_bind]
  iapply (none_loop d L)
  unfold chunkRes
  icases HI with ⟨Hmw, Hx, Hb, ⟨%fx, Hxs⟩, ⟨%fb, Hbs⟩, ⟨Has, Hms, Hns⟩, Hs0, Hs1, %W', %hW', HO⟩
  ihave Ha' := (Entails.of_eq (pts_aRowK (F := F) d L _).symm) $$ Ha
  ihave Hm' := (Entails.of_eq (pts_mRowK (F := F) d L _).symm) $$ Hm
  ihave Hn' := (Entails.of_eq (pts_cRowK (F := F) d L _).symm) $$ Hn
  ihave Has' := (Entails.of_eq (pts_aS (F := F) d L _).symm) $$ Has
  ihave Hms' := (Entails.of_eq (pts_mS (F := F) d L _).symm) $$ Hms
  ihave Hns' := (Entails.of_eq (pts_nS (F := F) d L _).symm) $$ Hns
  sl_exec (disch := first | exact View.amount_pos _ _ (show 0 < S128x128.numel by decide) | exact View.amount_pos _ _ (show 0 < S128x16.numel by decide))
  have ea : ∀ j ∈ (aRowK L).view.set, (aRowK L).view.writes (Elt F) (m (aLoc d)) [⟨Rect.whole S128x128, tile_body.sl.dma0 m d L⟩] j = oA m d j :=
    writes_read_on (aRowK L).view _ _ _ (read_aRowK m d L)
  have em : ∀ j ∈ (mRowK L).view.set, (mRowK L).view.writes (Elt F) (m (mLoc d)) [⟨Rect.whole S128x128, tile_body.sl.dma0_1 m d L⟩] j = oM m d j :=
    writes_read_on (mRowK L).view _ _ _ (read_mRowK m d L)
  have en : ∀ j ∈ (cRowK L).view.set, (cRowK L).view.writes (Elt F) (m (cLoc d)) [⟨Rect.whole S128x16, tile_body.sl.dma0_2 m d L⟩] j = oC m d j :=
    writes_read_on (cRowK L).view _ _ _ (read_cRowK m d L)
  ihave Ha := (Entails.of_eq ((pointsTo_congr ea).trans (pts_aRowK (F := F) d L (oA m d)))) $$ Ha'
  ihave Hm := (Entails.of_eq ((pointsTo_congr em).trans (pts_mRowK (F := F) d L (oM m d)))) $$ Hm'
  ihave Hn := (Entails.of_eq ((pointsTo_congr en).trans (pts_cRowK (F := F) d L (oC m d)))) $$ Hn'
  iapply (wp_rt d L)
  isplitl [Hx Hb Ha Hm Hn]
  · isplitl [Hx]; · iexact Hx
    isplitl [Hb]; · iexact Hb
    isplitl [Ha]; · iexact Ha
    isplitl [Hm]; · iexact Hm
    iexact Hn
  isplitl [Hxs Hbs Has' Hms' Hns' Hbufs]
  · isplitl [Hxs]; · iexists _; iexact Hxs
    isplitl [Hbs]; · iexists _; iexact Hbs
    isplitl [Has']; · iexists _; iexact Has'
    isplitl [Hms']; · iexists _; iexact Hms'
    isplitl [Hns']; · iexists _; iexact Hns'
    iexact Hbufs
  isplitl [Hs0 Hs1 Hs4 Hs5 Hs6 Hsems]
  · isplitl [Hs0]; · iexact Hs0
    isplitl [Hs1]; · iexact Hs1
    isplitl [Hs4]; · iexact Hs4
    isplitl [Hs5]; · iexact Hs5
    isplitl [Hs6]; · iexact Hs6
    iexact Hsems
  iexists _
  isplitr
  rotate_left
  · iexact HO
  · ipureintro
    intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact hW' p hp

/-! ## The obligation -/

/-- The coordinates of a SparseCore and a subcore. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s) xV (Memref.isWhole_whole _) bV (Memref.isWhole_whole _) aV (Memref.isWhole_whole _) mV (Memref.isWhole_whole _) nV (Memref.isWhole_whole _)
            xS (Memref.isWhole_whole _) bS (Memref.isWhole_whole _) aS (Memref.isWhole_whole _) mS (Memref.isWhole_whole _) nS (Memref.isWhole_whole _)
            cc0_scoped0 cc0_scoped1 cc0_scoped2 cc0_scoped3 cc0_scoped4 cc0_scoped5 cc0_scoped6) ⟨⟩ c s := rfl

theorem obl_post {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'
  isplitr
  · ipureintro
    exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body m d (coordsV ⟨_, hci.1⟩ ⟨_, hci.2⟩) hF hpre O W hO).trans (wp_mono frame _ _ fun _ => obl_post)

end Cert.Proof.KI

end
-- ==== Proof.KIMerge.lean ====
/-
  The TensorCore's merge of the tiles' tables: its body run, its pipeline's data, and its region over the launch's buffers.
-/
module

public import proofs.«01_k».proof.Proof.KICommon
public import proofs.«01_k».proof.Proof.Gen.KernelIdeal.Launch
public import proofs.«01_k».proof.Proof.Gen.KernelIdeal.Points
public import Idealize.ShloMosaic.Lib.Pipeline.Regions
public import Idealize.ShloMosaic.Lib.Pipeline.Value
public import Idealize.ShloMosaic.Lib.Pipeline.RegionsLoop
public import Idealize.ShloMosaic.Lib.Pipeline.ValueKit.Geometry

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)
open Cert.Proof.Spec (vec blk tab ctab ix1 ix2 St)

variable {F : FTy → Type} [FloatOps F]

local notation "𝕄" => MT nD τ sig (HIx 1) (Elt F) ℕ UU ℕ

/-- Two tables side by side. -/
def halves (f g : S128x128.Idx → F .f32) : S128x256.Idx → F .f32 := fun j =>
  if h : (j 1).val < 128 then f (ix2 (j 0) ⟨(j 1).val, h⟩)
  else g (ix2 (j 0) ⟨(j 1).val - 128, by have : (j 1).val < 256 := (j 1).isLt; omega⟩)

/-- The merge as a value: the mean in the left half of the columns, the maximum in the right half. -/
def merged (a mm : S32x128x128.Idx → F .f32) (n : S32x128x16.Idx → F .f32) : S128x256.Idx → F .f32 :=
  halves (k1_pay2 a n) (k1_pay1 mm)

abbrev Bf (c : Dev nD) {sp : Space} {S : Shape} {e : EltTy} (M : Memref sig .tc sp S e) : Type := Buf (Elt F) (M.view.loc (T c : Thread nD τ))
abbrev pt (c : Dev nD) {sp : Space} {S : Shape} {e : EltTy} (M : Memref sig .tc sp S e) (f : Bf (F := F) c M) : sProp 𝕄 :=
  M.view.loc (T c : Thread nD τ) ↦{fullShare} f

/-- Two stores side by side write the two tables. -/
theorem halves_writes (v : View sig .tc .vmem S128x256 .f32) (f : v.ty.Contents (Elt F)) (p q : S128x128.Idx → F .f32) :
    v.read (Elt F) (v.writes (Elt F) f
      [⟨Rect.unit ![0, 128] S128x128.size inb_S128x256_S128x128_0_128, q⟩,
        ⟨Rect.unit ![0, 0] S128x128.size inb_S128x256_S128x128_0_0, p⟩]) = halves p q := by
  funext y
  have hy0 : (y 0).val < 128 := (y 0).isLt
  have hy1 : (y 1).val < 256 := (y 1).isLt
  unfold halves
  by_cases h : (y 1).val < 128
  · rw [dif_pos h]
    refine (View.read_writes_cons_miss_of_axis v f _ _ y 1 128 128 rfl rfl rfl (Or.inl h)).trans ?_
    refine View.read_writes_cons_hit_of_coords v f (Rect.unit ![0, 0] S128x128.size inb_S128x256_S128x128_0_0) p []
      (show S128x128.Idx from ix2 (n := 128) (w := 128) ⟨(y 0).val, hy0⟩ ⟨(y 1).val, h⟩) y (fun b => ?_)
    match b with
    | 0 => show (y 0).val = 0 + 1 * (y 0).val; omega
    | 1 => show (y 1).val = 0 + 1 * (y 1).val; omega
  · rw [dif_neg h]
    refine View.read_writes_cons_hit_of_coords v f (Rect.unit ![0, 128] S128x128.size inb_S128x256_S128x128_0_128) q
      [⟨Rect.unit ![0, 0] S128x128.size inb_S128x256_S128x128_0_0, p⟩]
      (show S128x128.Idx from ix2 (n := 128) (w := 128) ⟨(y 0).val, hy0⟩ ⟨(y 1).val - 128, by omega⟩) y (fun b => ?_)
    match b with
    | 0 => show (y 0).val = 0 + 1 * (y 0).val; omega
    | 1 => show (y 1).val = 128 + 1 * ((y 1).val - 128); omega

/-- The two stores write the merge. -/
theorem merge_writes (c : Dev nD) (a mm : S32x128x128.Idx → F .f32) (n : S32x128x16.Idx → F .f32) (f3 : Bf (F := F) c (stage1_3 0)) :
    (stage1_3 0).view.writes (Elt F) f3
      [⟨Rect.unit ![0, 128] S128x128.size inb_S128x256_S128x128_0_128, k1_pay1 mm⟩,
        ⟨Rect.unit ![0, 0] S128x128.size inb_S128x256_S128x128_0_0, k1_pay2 a n⟩] = merged a mm n :=
  halves_writes (stage1_3 0).view f3 (k1_pay2 a n) (k1_pay1 mm)

theorem z3 : (![0, 0, 0] : Fin 3 → ℕ) = fun _ => 0 := funext fun b => by fin_cases b <;> rfl

/-- The body from its four staging buffers. -/
theorem merge_run (c : Dev nD) (a mm : S32x128x128.Idx → F .f32) (n : S32x128x16.Idx → F .f32)
    (f3 : Bf (F := F) c (stage1_3 0)) (Q : PUnit → sProp 𝕄) :
    iprop(pt c (stage1_0 0) a ∗ pt c (stage1_1 0) mm ∗ pt c (stage1_2 0) n ∗ pt c (stage1_3 0) f3
      ∗ (iprop(pt c (stage1_0 0) a ∗ pt c (stage1_1 0) mm ∗ pt c (stage1_2 0) n ∗ pt c (stage1_3 0) (merged a mm n)) -∗ Q ⟨⟩))
      ⊢ wp frame (wpE (defs₀ (F := F)) Variants.none (T c) none) Set.univ
          (cc1_body (stage1_0 0) (hstage1_0 0) (stage1_1 0) (hstage1_1 0) (stage1_2 0) (hstage1_2 0) (stage1_3 0) (hstage1_3 0)) Q := by
  rw [cc1_body_eq_skeleton]; unfold cc1_body_skel
  iintro ⟨H0, H1, H2, H3, Hk⟩
  sl_exec
  sl_step
  have e0 : View.readAt (Elt F) (stage1_0 0).view (Rect.unit ![0, 0, 0] S32x128x128.size inb_S32x128x128_S32x128x128_0_0_0).toLoadRect a = a :=
    Memref.readAt_unit_zero (Elt F) cc1_stg0_0 z3 _ a
  have e1 : View.readAt (Elt F) (stage1_1 0).view (Rect.unit ![0, 0, 0] S32x128x128.size inb_S32x128x128_S32x128x128_0_0_0).toLoadRect mm = mm :=
    Memref.readAt_unit_zero (Elt F) cc1_stg1_0 z3 _ mm
  have e2 : View.readAt (Elt F) (stage1_2 0).view (Rect.unit ![0, 0, 0] S32x128x16.size inb_S32x128x16_S32x128x16_0_0_0).toLoadRect n = n :=
    Memref.readAt_unit_zero (Elt F) cc1_stg2_0 z3 _ n
  rw [e0, e1, e2, merge_writes]
  iapply Hk
  isplitl [H0]; · iexact H0
  isplitl [H1]; · iexact H1
  isplitl [H2]; · iexact H2
  iexact H3

/-! ## The region at an entry valuation -/

variable (V : (c : Dev nD) → (b : Ref sig .tc) → Buf (Elt F) ((c.tc : Thread nD τ).loc b))

abbrev stg0 (c : Dev nD) : S32x128x128.Idx → F .f32 := ((cfg1.win 0).blk t1_0).view.read (Elt F) (V c main_v0_0)
abbrev stg1 (c : Dev nD) : S32x128x128.Idx → F .f32 := ((cfg1.win 1).blk t1_0).view.read (Elt F) (V c main_v0_1)
abbrev stg2 (c : Dev nD) : S32x128x16.Idx → F .f32 := ((cfg1.win 2).blk t1_0).view.read (Elt F) (V c main_v0_2)

abbrev Φc (c : Dev nD) : sProp 𝕄 := Pipeline.scopedRest (Ix := HIx 1) (Name := ℕ) (U := UU) (Lvl := ℕ) (Val := Elt F) spec1 c

/-- The waits the TensorCore has recorded before the merge: none above the level of the call's end. -/
abbrev rec (c : Dev nD) : Set (SemLoc sig × HIx 1) := {p | (K (F := F)).lev (nD := nD) (T c, p.1) p.2 ≤ 8}

/-- The merge's data: its three inputs as they stand, its output the merge of what was fetched. -/
def dat (c : Dev nD) : Dat τ (Elt F) (HIx 1) ℕ UU ℕ cfg1 c where
  A w := V c (Pipeline.arrRef spec1 w)
  after w _ := match w with
    | ⟨0, _⟩ => stg0 V c
    | ⟨1, _⟩ => stg1 V c
    | ⟨2, _⟩ => stg2 V c
    | ⟨3, _⟩ => merged (stg0 V c) (stg1 V c) (stg2 V c)
  Φ _ := Φc c
  q _ := fullShare
  owed _ := 0
  recorded _ := rec (F := F) c

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat V c

theorem before_0 (c : Dev nD) (d : (cfg1.win 0).block.Idx → Elt F (cfg1.win 0).elt) : (dat V c).before 0 t1_0 d = stg0 V c := by
  unfold Dat.before; rw [if_pos (by decide)]; rfl
theorem before_1 (c : Dev nD) (d : (cfg1.win 1).block.Idx → Elt F (cfg1.win 1).elt) : (dat V c).before 1 t1_0 d = stg1 V c := by
  unfold Dat.before; rw [if_pos (by decide)]; rfl
theorem before_2 (c : Dev nD) (d : (cfg1.win 2).block.Idx → Elt F (cfg1.win 2).elt) : (dat V c).before 2 t1_0 d = stg2 V c := by
  unfold Dat.before; rw [if_pos (by decide)]; rfl

theorem body_obligation (c : Dev nD) : BodyObligation (dat V c) (defs₀ (F := F)) 𝒱₀ none Set.univ := fun t => by
  obtain rfl := fin_N1 t
  rw [bigSep_W1, bigSep_W1]
  simp only [owns_whole_eq]
  rw [show (dat V c).Φ t1_0.castSucc = Φc c from rfl, show (dat V c).Φ t1_0.succ = Φc c from rfl,
    show (dat V c).owesAt none t1_0.succ = (dat V c).owesAt none t1_0.castSucc from rfl]
  iintro ⟨HΦ, Howes, ⟨%d0, %f0, %hf0, H0⟩, ⟨%d1, %f1, %hf1, H1⟩, ⟨%d2, %f2, %hf2, H2⟩, ⟨%d3, %f3, -, H3⟩⟩
  rw [before_0] at hf0
  rw [before_1] at hf1
  rw [before_2] at hf2
  subst hf0 hf1 hf2
  iapply (merge_run c (stg0 V c) (stg1 V c) (stg2 V c) f3 _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  iexists _; isplitr; swap; (· iexact H3); ipureintro; dsimp only [dat]

theorem stg0_eq (c : Dev nD) : stg0 V c = V c main_v0_0 := Memref.read_access_unit_zero (Elt F) main_v0_0 (funext fun b => by fin_cases b <;> rfl) _ _
theorem stg1_eq (c : Dev nD) : stg1 V c = V c main_v0_1 := Memref.read_access_unit_zero (Elt F) main_v0_1 (funext fun b => by fin_cases b <;> rfl) _ _
theorem stg2_eq (c : Dev nD) : stg2 V c = V c main_v0_2 := Memref.read_access_unit_zero (Elt F) main_v0_2 (funext fun b => by fin_cases b <;> rfl) _ _

/-- The merged output's array after the region. -/
theorem arrAt_out (c : Dev nD) : (dat V c).arrAt 3 cfg1.N = merged (V c main_v0_0) (V c main_v0_1) (V c main_v0_2) := by
  refine Pipeline.Dat.arrAt_eq_of_after_last (dat V c) 3 t1_0 (by decide +kernel) _ (fun j => ?_)
  refine Eq.trans (b := merged (stg0 V c) (stg1 V c) (stg2 V c) j) rfl ?_
  rw [stg0_eq, stg1_eq, stg2_eq]
  rfl

/-! ## The region over the launch's buffers -/

variable (Vp : (c : Dev nD) → (b : Ref sig .tc) → Buf (Elt F) ((c.tc : Thread nD τ).loc b))

set_option backward.isDefEq.respectTransparency.types false in
/-- The merge over the launch's unscoped buffers: entered at `V`, left at `Vp`, which has the merged output and else agrees
    with `V`; it owes nothing and records no wait above the call's end. -/
def reg (hVp_out : ∀ c, Vp c main_v1 = merged (V c main_v0_0) (V c main_v0_1) (V c main_v0_2))
    (hVp_ne : ∀ c (b : Ref sig .tc), b ≠ main_v1 → Vp c b = V c b) :
    Pipeline.RegionSeg (pcfgs (F := F)) adm (pdats V adm) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ ∃ W, ⌜(K (F := F)).WBelow (T c) W 8⌝ ∗ owes (T c) (0 : CellTallies nD τ sig (HIx 1)) W)
  post c := iprop(unscopedBufs c (Vp c) ∗ ∃ W, ⌜(K (F := F)).WBelow (T c) W 8⌝ ∗ owes (T c) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V adm) (launch1).win (launch1).arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm 0 c).Φ 0 = Φc c from rfl]
    iintro ⟨-, -, Hr⟩; iexact Hr
  hout c := by
    rw [Pipeline.ownSems0_none, show (pdats V adm 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (pdats V adm) ((pdats V adm 0 c).share_full fun _ => rfl) (V c) (Vp c) ((pdats V adm 0 c).arrAt · cfg1.N)
      (fun w => by
        fin_cases w
        · exact ((pdats V adm 0 c).arrAt_in 0 rfl _).trans (hVp_ne c main_v0_0 (by decide)).symm
        · exact ((pdats V adm 0 c).arrAt_in 1 rfl _).trans (hVp_ne c main_v0_1 (by decide)).symm
        · exact ((pdats V adm 0 c).arrAt_in 2 rfl _).trans (hVp_ne c main_v0_2 (by decide)).symm
        · exact (arrAt_out V c).trans (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; swap; · iexact HO
    ipureintro
    intro p hp
    rcases hW hp with h | ⟨w, s, rfl⟩
    · exact h
    · exact Nat.zero_le _

end Cert.Proof.KI

end
-- ==== Proof.KIMain.lean ====
/-
  The whole run: the inputs' shares and the outputs' slabs dealt to the thirty-two tiles, the host's two calls, and what every buffer holds at
  the end.
-/
module

public import proofs.«01_k».proof.Proof.KITile
public import proofs.«01_k».proof.Proof.KIMerge

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)
open Cert.Proof.Spec (vec blk tab ctab ix1 ix2 St)

variable {F : FTy → Type} [FloatOps F]

local notation "𝕄" => MT nD τ sig (HIx 1) (Elt F) ℕ UU ℕ

variable (m : (ℓ : Loc nD τ sig) → Buf (Elt F) ℓ) (ρ : Dev nD → PrngReg)

/-! ## Thirty-two tiles -/

omit [FloatOps F] in
/-- The cores' subcores are the thirty-two tiles. -/
theorem bigSep_wid (Φ : Fin 32 → sProp 𝕄) :
    (bigSep Finset.univ fun c : Fin ((K (F := F)).nCore 0) => bigSep Finset.univ fun i : Fin ((K (F := F)).nSub 0) => Φ (widK (F := F) c i))
      = bigSep Finset.univ Φ := by
  have e : (Finset.univ : Finset (Fin 2 × Fin 16)).map ⟨fun p => wid p.1 p.2, fun p q h => by
      have := congrArg Fin.val h
      simp only [wid] at this
      exact Prod.ext (Fin.ext (by omega)) (Fin.ext (by omega))⟩ = Finset.univ := by decide
  refine Eq.trans ?_ ((bigSep_univ_prod (fun p : Fin 2 × Fin 16 => Φ (wid p.1 p.2))).symm.trans ?_)
  · exact bigSep_congr fun c _ => bigSep_congr fun i _ => rfl
  · rw [← e, bigSep_map]
    rfl

theorem aslab_disjoint : ∀ i ∈ (Finset.univ : Finset (Fin 32)), ∀ j ∈ (Finset.univ : Finset (Fin 32)), i ≠ j → Disjoint (aSet i) (aSet j) :=
  fun _ _ _ _ h => Rect.part_disjoint adiv h
theorem cslab_disjoint : ∀ i ∈ (Finset.univ : Finset (Fin 32)), ∀ j ∈ (Finset.univ : Finset (Fin 32)), i ≠ j → Disjoint (cSet i) (cSet j) :=
  fun _ _ _ _ h => Rect.part_disjoint cdiv h
theorem aslab_cover : Finset.univ.biUnion aSet = Finset.univ := Rect.biUnion_part adiv
theorem cslab_cover : Finset.univ.biUnion cSet = Finset.univ := Rect.biUnion_part cdiv

omit [FloatOps F] in
theorem aPts_slabs (d : Dev nD) (f : Buf (Elt F) (aLoc d)) :
    (aLoc d ↦{fullShare} f : sProp 𝕄) = bigSep Finset.univ fun w : Fin 32 => aLoc d ↦[aSet w]{fullShare} f := by
  rw [← pointsTo_biUnion Finset.univ (ℓ := aLoc d) aSet aslab_disjoint, aslab_cover]; try rfl
omit [FloatOps F] in
theorem mPts_slabs (d : Dev nD) (f : Buf (Elt F) (mLoc d)) :
    (mLoc d ↦{fullShare} f : sProp 𝕄) = bigSep Finset.univ fun w : Fin 32 => mLoc d ↦[aSet w]{fullShare} f := by
  rw [← pointsTo_biUnion Finset.univ (ℓ := mLoc d) aSet aslab_disjoint, aslab_cover]; try rfl
omit [FloatOps F] in
theorem cPts_slabs (d : Dev nD) (f : Buf (Elt F) (cLoc d)) :
    (cLoc d ↦{fullShare} f : sProp 𝕄) = bigSep Finset.univ fun w : Fin 32 => cLoc d ↦[cSet w]{fullShare} f := by
  rw [← pointsTo_biUnion Finset.univ (ℓ := cLoc d) cSet cslab_disjoint, cslab_cover]; try rfl
omit [FloatOps F] in
theorem xPts_shares (d : Dev nD) (f : Buf (Elt F) (xLoc d)) :
    (xLoc d ↦{fullShare} f : sProp 𝕄) = bigSep Finset.univ fun w : Fin 32 => xLoc d ↦{sh w} f :=
  ShareLeaves.pointsTo_leaves Finset.univ f 5 fullShare
omit [FloatOps F] in
theorem bPts_shares (d : Dev nD) (f : Buf (Elt F) (bLoc d)) :
    (bLoc d ↦{fullShare} f : sProp 𝕄) = bigSep Finset.univ fun w : Fin 32 => bLoc d ↦{sh w} f :=
  ShareLeaves.pointsTo_leaves Finset.univ f 5 fullShare

/-- The call's start takes the five buffers as launched … -/
theorem st0_eq (d : Dev nD) : (bigSep Finset.univ fun c : Fin ((K (F := F)).nCore 0) => (P m).st 0 d c)
    = iprop((xLoc d ↦{fullShare} m (xLoc d)) ∗ (bLoc d ↦{fullShare} m (bLoc d)) ∗ (aLoc d ↦{fullShare} m (aLoc d))
        ∗ (mLoc d ↦{fullShare} m (mLoc d)) ∗ (cLoc d ↦{fullShare} m (cLoc d))) := by
  refine (bigSep_wid (goW m d)).trans ?_
  rw [xPts_shares, bPts_shares, aPts_slabs, mPts_slabs, cPts_slabs, ← bigSep_sep', ← bigSep_sep', ← bigSep_sep', ← bigSep_sep']
/-- … and its end gives them back, the three outputs at the tiles' tables. -/
theorem dn0_eq (d : Dev nD) : (bigSep Finset.univ fun c : Fin ((K (F := F)).nCore 0) => (P m).dn 0 d c)
    = iprop((xLoc d ↦{fullShare} m (xLoc d)) ∗ (bLoc d ↦{fullShare} m (bLoc d)) ∗ (aLoc d ↦{fullShare} oA m d)
        ∗ (mLoc d ↦{fullShare} oM m d) ∗ (cLoc d ↦{fullShare} oC m d)) := by
  refine (bigSep_wid (tdW m d)).trans ?_
  rw [xPts_shares, bPts_shares, aPts_slabs, mPts_slabs, cPts_slabs, ← bigSep_sep', ← bigSep_sep', ← bigSep_sep', ← bigSep_sep']

/-! ## The launch element -/

abbrev adm : (p : Fin 1) → (pcfgs (F := F) p).Adm := fun p => (cfgs p).toPCfg_adm

abbrev uP : UR sig nD τ := initOf (Pipeline.cells (nD := nD) (τ := τ) cfgs cellOf_inj) (Pipeline.launchToks (nD := nD) (τ := τ) cfgs cellOf_inj)
def u₀ : UU := (initOf (K (F := F)).hsCells (K (F := F)).hsToks, (uP, 1))

/-- The merge's ghost state on device `d`. -/
abbrev G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem ownU_split (a : UH) (b : UR sig nD τ) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op _)))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P m).x q thr) := by
  unfold u₀
  iintro Hu
  ihave H := (ownU_split (F := F) (initOf (K (F := F)).hsCells (K (F := F)).hsToks) uP) $$ Hu
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · rw [bigSep_sep']
    isplitl [Hg]
    · rw [show (bigSep Finset.univ fun c : Dev nD => Pipeline.cellsGhost (Pipeline.pin (pcfgs (F := F)) adm) EP 0 c : sProp 𝕄)
          = bigSep Finset.univ fun c : Dev nD => bigSep Finset.univ fun p : Fin 1 => Pipeline.cellsGhost (Pipeline.pin (pcfgs (F := F)) adm) EP p c from
        bigSep_congr fun c _ => (bigSep_univ_of_subsingleton (Φ := fun p : Fin 1 => (Pipeline.cellsGhost (Pipeline.pin (pcfgs (F := F)) adm) EP p c : sProp 𝕄)) (0 : Fin 1)).symm]
      iexact Hg
    · rw [show (bigSep Finset.univ fun c : Dev nD => Pipeline.toksInit (Pipeline.pin (pcfgs (F := F)) adm) EP 0 c : sProp 𝕄)
          = bigSep Finset.univ fun c : Dev nD => bigSep Finset.univ fun p : Fin 1 => Pipeline.toksInit (Pipeline.pin (pcfgs (F := F)) adm) EP p c from
        bigSep_congr fun c _ => (bigSep_univ_of_subsingleton (Φ := fun p : Fin 1 => (Pipeline.toksInit (Pipeline.pin (pcfgs (F := F)) adm) EP p c : sProp 𝕄)) (0 : Fin 1)).symm]
      iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host's program -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (bLoc d ↦{fullShare} W main_arg1) ∗ (aLoc d ↦{fullShare} W main_v0_0)
      ∗ (mLoc d ↦{fullShare} W main_v0_1) ∗ (cLoc d ↦{fullShare} W main_v0_2) ∗ rLoc d ↦{fullShare} W main_v1) := by
  unfold unscopedBufs
  rw [show (Finset.univ.filter fun b : Ref sig .tc => ¬ b.isScoped) = {main_arg0, main_arg1, main_v0_0, main_v0_1, main_v0_2, main_v1} by decide,
    SparseCore.bigSep_insert' (by decide), SparseCore.bigSep_insert' (by decide), SparseCore.bigSep_insert' (by decide),
    SparseCore.bigSep_insert' (by decide), SparseCore.bigSep_insert' (by decide), bigSep_singleton]

/-- The buffers between the two calls, and after them. -/
def V1 (d : Dev nD) : (b : Ref sig .tc) → Buf (Elt F) ((d.tc : Thread nD τ).loc b) :=
  Function.update (Function.update (Function.update (fun b => m ((d.tc : Thread nD τ).loc b)) main_v0_0 (oA m d)) main_v0_1 (oM m d)) main_v0_2 (oC m d)
abbrev oR (d : Dev nD) : Buf (Elt F) (rLoc d) := merged (oA m d) (oM m d) (oC m d)
def V2 (d : Dev nD) : (b : Ref sig .tc) → Buf (Elt F) ((d.tc : Thread nD τ).loc b) := Function.update (V1 m d) main_v1 (oR m d)

theorem V1_x (d : Dev nD) : V1 m d main_arg0 = m (xLoc d) := by
  unfold V1
  rw [Function.update_of_ne (show main_arg0 ≠ main_v0_2 by decide), Function.update_of_ne (show main_arg0 ≠ main_v0_1 by decide), Function.update_of_ne (show main_arg0 ≠ main_v0_0 by decide)]
theorem V1_b (d : Dev nD) : V1 m d main_arg1 = m (bLoc d) := by
  unfold V1
  rw [Function.update_of_ne (show main_arg1 ≠ main_v0_2 by decide), Function.update_of_ne (show main_arg1 ≠ main_v0_1 by decide), Function.update_of_ne (show main_arg1 ≠ main_v0_0 by decide)]
theorem V1_a (d : Dev nD) : V1 m d main_v0_0 = oA m d := by
  unfold V1
  rw [Function.update_of_ne (show main_v0_0 ≠ main_v0_2 by decide), Function.update_of_ne (show main_v0_0 ≠ main_v0_1 by decide), Function.update_self]
theorem V1_m (d : Dev nD) : V1 m d main_v0_1 = oM m d := by
  unfold V1
  rw [Function.update_of_ne (show main_v0_1 ≠ main_v0_2 by decide), Function.update_self]
theorem V1_c (d : Dev nD) : V1 m d main_v0_2 = oC m d := by
  unfold V1
  rw [Function.update_self]
theorem V1_r (d : Dev nD) : V1 m d main_v1 = m (rLoc d) := by
  unfold V1
  rw [Function.update_of_ne (show main_v1 ≠ main_v0_2 by decide), Function.update_of_ne (show main_v1 ≠ main_v0_1 by decide), Function.update_of_ne (show main_v1 ≠ main_v0_0 by decide)]
theorem V2_r (d : Dev nD) : V2 m d main_v1 = oR m d := by unfold V2; rw [Function.update_self]
theorem V2_ne (d : Dev nD) (b : Ref sig .tc) (h : b ≠ main_v1) : V2 m d b = V1 m d b := by unfold V2; rw [Function.update_of_ne h]

abbrev mreg := reg (F := F) (V1 m) adm (V2 m) (fun c => by rw [V2_r, V1_a, V1_m, V1_c]) (V2_ne m)

theorem mreg_pre (d : Dev nD) : (mreg m).pre d
    = iprop(unscopedBufs d (V1 m d) ∗ ∃ W, ⌜(K (F := F)).WBelow (T d) W 8⌝ ∗ owes (T d) (0 : CellTallies nD τ sig (HIx 1)) W) := rfl
theorem mreg_post (d : Dev nD) : (mreg m).post d
    = iprop(unscopedBufs d (V2 m d) ∗ ∃ W, ⌜(K (F := F)).WBelow (T d) W 8⌝ ∗ owes (T d) (0 : CellTallies nD τ sig (HIx 1)) W) := rfl

/-- What device `d` ends holding, of which the claims speak. -/
abbrev FIN (d : Dev nD) : sProp 𝕄 := iprop((xLoc d ↦{fullShare} m (xLoc d)) ∗ (bLoc d ↦{fullShare} m (bLoc d)) ∗ rLoc d ↦{fullShare} oR m d)

set_option backward.isDefEq.respectTransparency.types false in
theorem region_wp [∀ e, Nonempty (Elt F e)] {pdats : (p : Fin 1) → (c : Dev nD) → Dat τ (Elt F) (HIx 1) ℕ UU ℕ (Pipeline.pin (pcfgs (F := F)) adm p) c}
    (R : Pipeline.RegionSeg (pcfgs (F := F)) adm pdats none defs₀ 𝒱₀ (K (F := F)).L (K (F := F)).lev 0) (d : Dev nD) (Q : PUnit → sProp 𝕄) :
    iprop((iprop(boundary (d.tc : Thread nD τ) ∗ R.post d) -∗ wp frame (wpE (D (F := F)) 𝒱 (d.tc : Thread nD τ) none) Set.univ (.ret ⟨⟩) Q)
        ∗ boundary (d.tc : Thread nD τ) ∗ R.pre d ∗ levAts (K (F := F)).L (K (F := F)).lev ∗ G d)
      ⊢ wp frame (wpE (D (F := F)) 𝒱 (d.tc : Thread nD τ) none) Set.univ (.op (.customCall (Pipeline.entry 0) ()) .ret) Q :=
  Pipeline.RegionSeg.wp (pcfgs (F := F)) adm pdats none cellOf_inj EP defs₀ 𝒱₀ (K (F := F)).L (K (F := F)).lev R d none
    (fun u hu => nomatch hu) .ret Q

/-- The host's call of the merge, in the pipelines' program. -/
abbrev entryP : Prog (TpuEff nD τ sig (Elt F) (ΛP (F := F)) .tc) PUnit := .op (.customCall (Pipeline.entry 0) ()) .ret

/-- The merge, entered from the host. -/
theorem entry_wp [∀ e, Nonempty (Elt F e)] {pdats : (p : Fin 1) → (c : Dev nD) → Dat τ (Elt F) (HIx 1) ℕ UU ℕ (Pipeline.pin (pcfgs (F := F)) adm p) c}
    (R : Pipeline.RegionSeg (pcfgs (F := F)) adm pdats none defs₀ 𝒱₀ (K (F := F)).L (K (F := F)).lev 0) (d : Dev nD) (Q : PUnit → sProp 𝕄) :
    iprop((iprop(boundary (T d) ∗ R.post d) -∗ Q ⟨⟩) ∗ boundary (T d) ∗ R.pre d ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Q := by
  have H : iprop((iprop(boundary (T d) ∗ R.post d) -∗ Q ⟨⟩) ∗ boundary (T d) ∗ R.pre d ∗ levAts (K (F := F)).L (K (F := F)).lev ∗ G d)
      ⊢ wp frame (wpE (D (F := F)) 𝒱 (T d) none) Set.univ (entryP (F := F)) Q := by
    iintro ⟨Hk, H⟩
    iapply (region_wp R d Q)
    isplitl [Hk]
    · iintro H
      rw [wp_ret]
      imodintro
      iapply Hk; iexact H
    iexact H
  exact H.trans ((K (F := F)).wp_liftProg (D (F := F)) 𝒱 (T d) Set.univ none (entryP (F := F)) Q)

/-- The host's handshake state after the call, but for what it owes. -/
abbrev tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

omit [FloatOps F] in
theorem tcSt_one (d : Dev nD) : ((K (F := F)).tcSt EH d 1 : sProp 𝕄)
    = iprop((∃ W, ⌜(K (F := F)).WBelow (T d) W 8⌝ ∗ owes (T d) (0 : CellTallies nD τ sig (HIx 1)) W) ∗ tcRest d) := by
  unfold SparseCore.Cfg.tcSt
  rw [(K (F := F)).Otc_end d (n := 1) (le_refl 1)]
  rfl

/-- The buffers before the merge, from the call's end; and after it. -/
theorem pre_intro (d : Dev nD) : iprop((xLoc d ↦{fullShare} m (xLoc d)) ∗ (bLoc d ↦{fullShare} m (bLoc d)) ∗ (aLoc d ↦{fullShare} oA m d)
        ∗ (mLoc d ↦{fullShare} oM m d) ∗ (cLoc d ↦{fullShare} oC m d) ∗ rLoc d ↦{fullShare} m (rLoc d)) = (unscopedBufs d (V1 m d) : sProp 𝕄) := by
  rw [unscopedBufs_eq, V1_x, V1_b, V1_a, V1_m, V1_c, V1_r]
theorem post_elim (d : Dev nD) : (unscopedBufs d (V2 m d) : sProp 𝕄) ⊢ FIN m d := by
  rw [unscopedBufs_eq, V2_r, V2_ne m d main_arg0 (by decide), V2_ne m d main_arg1 (by decide), V1_x, V1_b]
  iintro ⟨Hx, Hbt, -, -, -, Hr⟩
  isplitl [Hx]; · iexact Hx
  isplitl [Hbt] <;> iassumption

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hbt, Ha, Hm, Hc, Hr⟩, Hts, -⟩, HG⟩
  iapply ((K (F := F)).wp_run (D (F := F)) 𝒱 (EH := EH) (P := P m) κ d 0) $$ [Hst Hx Hbt Ha Hm Hc Hr Hb Hts HG]
  isplitr; · iexact Hctx
  isplitl [Hst]; · iexact Hst
  isplitl [Hx Hbt Ha Hm Hc]
  · rw [st0_eq]
    isplitl [Hx]; · iexact Hx
    isplitl [Hbt]; · iexact Hbt
    isplitl [Ha]; · iexact Ha
    isplitl [Hm] <;> iassumption
  iintro ⟨Hst, Hdn⟩
  ihave Hdn' := (Entails.of_eq (dn0_eq m d)) $$ Hdn
  icases Hdn' with ⟨Hx, Hbt, Ha, Hm, Hc⟩
  ihave Hst' := (Entails.of_eq (show (K (F := F)).tcSt EH d ((0 : Fin 1).val + 1) = _ from tcSt_one (F := F) d)) $$ Hst
  icases Hst' with ⟨HO, Hrest⟩
  iapply (entry_wp (mreg m) d _)
  isplitl [Hrest Hts]
  · iintro ⟨Hb, Hpost⟩
    ihave Hpost' := (Entails.of_eq (mreg_post m d)) $$ Hpost
    icases Hpost' with ⟨Hub, HO⟩
    ihave Hub' := (post_elim m d) $$ Hub
    imodintro
    isplitl [HO Hrest]
    · iapply (Entails.of_eq (tcSt_one (F := F) d).symm)
      isplitl [HO] <;> iassumption
    isplitl [Hub']; · iexact Hub'
    isplitl [Hb] <;> iassumption
  isplitl [Hb]; · iexact Hb
  isplitl [Hx Hbt Ha Hm Hc Hr HO]
  · iapply (Entails.of_eq (mreg_pre m d).symm)
    isplitl [Hx Hbt Ha Hm Hc Hr]
    · iapply (Entails.of_eq (pre_intro m d))
      isplitl [Hx]; · iexact Hx
      isplitl [Hbt]; · iexact Hbt
      isplitl [Ha]; · iexact Ha
      isplitl [Hm]; · iexact Hm
      isplitl [Hc] <;> iassumption
    iexact HO
  isplitr; · iapply (SparseCore.Cfg.ctx_levAts κ); iexact Hctx
  iexact HG

/-- What the claims read off device `d` at the end. -/
def fq (d : Dev nD) (s' : Phys nD τ sig (Elt F)) : Prop :=
  s'.mem.mem (xLoc d) = m (xLoc d) ∧ s'.mem.mem (bLoc d) = m (bLoc d) ∧ s'.mem.mem (rLoc d) = oR m d

set_option maxRecDepth 16384 in
theorem hfin (d : Dev nD) (s' : Phys nD τ sig (Elt F)) : iprop(FIN m d ∗ SI s') ⊢ (⌜fq m d s'⌝ : sProp 𝕄) := by
  iintro ⟨⟨Hx, Hb, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := rLoc d) (I := Finset.univ) (q := fullShare) (f := oR m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

def QC : PUnit × MemSt nD τ sig (Elt F) → Prop := fun r =>
  (∀ c : Dev nD, r.2.mem (xLoc c) = m (xLoc c) ∧ r.2.mem (bLoc c) = m (bLoc c) ∧ r.2.mem (rLoc c) = oR m c) ∧ r.2.sem = fun _ => 0

/-- Every run of the kernel ends with its inputs as they were, the merged tables as its result and no semaphore raised. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof.KI

end
-- ==== Proof.TileMath.lean ====
/-
  The tables of one tile over the extended reals, where the rows come in order of their segment: each entry is the sum,
  the supremum or the count over the rows of that segment. Then the thirty-two tiles together cover every row once.
-/
module

public import proofs.«01_k».proof.Proof.Spec
public import Idealize.ShloMosaic.PureOps.Ideal
public import Idealize.ShloMosaic.PureOps.Ideal.Laws
public import Idealize.ShloMosaic.Lib.IdealHost

@[expose] public section

noncomputable section

namespace Cert.Proof.Spec

open Idealize.ShloMosaic

theorem zero_ideal : (zero : Ideal .f32) = (0 : EReal) := Ideal.ofBits_zero_f32
theorem one_ideal : (one : Ideal .f32) = (1 : EReal) := Ideal.ofBits_one_f32
theorem ninf_ideal : (ninf : Ideal .f32) = (⊥ : EReal) := by
  show Ideal.ofBits .f32 0xFF800000#32 = ⊥
  simp [Ideal.ofBits, Ideal.ieee]

/-- The rows `i < n` of segment `g`: the sum of `v i`, the supremum, and how many. -/
def segSum (b : ℕ → BitVec 32) (v : ℕ → EReal) (g n : ℕ) : EReal := ∑ i ∈ Finset.range n, if (b i).toNat = g then v i else 0
def segMax (b : ℕ → BitVec 32) (v : ℕ → EReal) (g n : ℕ) : EReal := (Finset.range n).sup fun i => if (b i).toNat = g then v i else ⊥

theorem segSum_succ (b : ℕ → BitVec 32) (v : ℕ → EReal) (g n : ℕ) :
    segSum b v g (n + 1) = if g = (b n).toNat then segSum b v g n + v n else segSum b v g n := by
  unfold segSum
  rw [Finset.sum_range_succ]
  by_cases h : g = (b n).toNat
  · rw [if_pos h, if_pos h.symm]
  · rw [if_neg h, if_neg fun e => h e.symm, add_zero]

theorem segMax_succ (b : ℕ → BitVec 32) (v : ℕ → EReal) (g n : ℕ) :
    segMax b v g (n + 1) = if g = (b n).toNat then max (segMax b v g n) (v n) else segMax b v g n := by
  unfold segMax
  rw [Finset.range_add_one, Finset.sup_insert]
  by_cases h : g = (b n).toNat
  · rw [if_pos h, if_pos h.symm]; exact sup_comm _ _
  · rw [if_neg h, if_neg fun e => h e.symm]; exact bot_sup_eq _

theorem segSum_none (b : ℕ → BitVec 32) (v : ℕ → EReal) (g n : ℕ) (h : ∀ i < n, (b i).toNat ≠ g) : segSum b v g n = 0 :=
  Finset.sum_eq_zero fun i hi => if_neg (h i (Finset.mem_range.1 hi))

theorem segMax_none (b : ℕ → BitVec 32) (v : ℕ → EReal) (g n : ℕ) (h : ∀ i < n, (b i).toNat ≠ g) : segMax b v g n = ⊥ :=
  (Finset.sup_eq_bot_iff _ _).2 fun i hi => if_neg (h i (Finset.mem_range.1 hi))

/-- What a tile's state is after `n` rows. -/
structure Good (b : ℕ → BitVec 32) (x : ℕ → Fin 128 → EReal) (n : ℕ) (s : St Ideal) : Prop where
  A : ∀ g j, s.A g j = segSum b (fun i => x i j) g n
  M : ∀ g j, s.M g j = segMax b (fun i => x i j) g n
  C : ∀ g, s.C g = segSum b (fun _ => 1) g n
  prev0 : n = 0 → s.prev = 4294967295#32
  prev : ∀ k, n = k + 1 → s.prev = b k
  sv : ∀ k, n = k + 1 → ∀ j, s.sv j = s.A (b k).toNat j
  mv : ∀ k, n = k + 1 → ∀ j, s.mv j = s.M (b k).toNat j
  cv : ∀ k, n = k + 1 → s.cv = s.C (b k).toNat

theorem good_zero (b : ℕ → BitVec 32) (x : ℕ → Fin 128 → EReal) : Good b x 0 St.init where
  A _ _ := zero_ideal
  M _ _ := ninf_ideal
  C _ := zero_ideal
  prev0 _ := rfl
  prev _ h := absurd h (by omega)
  sv _ h := absurd h (by omega)
  mv _ h := absurd h (by omega)
  cv _ h := absurd h (by omega)

/-- The running values of a row are its segment's over the rows up to it. -/
theorem good_run {b : ℕ → BitVec 32} {x : ℕ → Fin 128 → EReal} {n : ℕ} {s : St Ideal} (hb : ∀ i ≤ n, (b i).toNat < 128)
    (hs : ∀ i ≤ n, ∀ j ≤ n, i ≤ j → (b i).toNat ≤ (b j).toNat) (h : Good b x n s) :
    (∀ j, s.sv' (b n) (x n) j = segSum b (fun i => x i j) (b n).toNat n + x n j)
      ∧ (∀ j, s.mv' (b n) (x n) j = max (segMax b (fun i => x i j) (b n).toNat n) (x n j))
      ∧ s.cv' (b n) = segSum b (fun _ => 1) (b n).toNat n + 1 := by
  by_cases e : b n = s.prev
  · cases n with
    | zero =>
      have h1 := hb 0 le_rfl
      rw [e, h.prev0 rfl] at h1
      exact absurd h1 (by decide)
    | succ k =>
      have ek : b (k + 1) = b k := e.trans (h.prev k rfl)
      refine ⟨fun j => ?_, fun j => ?_, ?_⟩
      · unfold St.sv'
        rw [if_pos e, h.sv k rfl j, h.A, ek]; rfl
      · unfold St.mv'
        rw [if_pos e, h.mv k rfl j, h.M, ek]; rfl
      · unfold St.cv'
        rw [if_pos e, h.cv k rfl, h.C, one_ideal, ek]; rfl
  · have hne : ∀ i < n, (b i).toNat ≠ (b n).toNat := by
      intro i hi hc
      obtain ⟨k, rfl⟩ : ∃ k, n = k + 1 := ⟨n - 1, by omega⟩
      rw [h.prev k rfl] at e
      have h1 := hs i (by omega) k (by omega) (by omega)
      have h2 := hs k (by omega) (k + 1) le_rfl (by omega)
      exact e (BitVec.eq_of_toNat_eq (by omega))
    refine ⟨fun j => ?_, fun j => ?_, ?_⟩
    · unfold St.sv'
      rw [if_neg e, segSum_none b _ _ n hne, zero_add]
    · unfold St.mv'
      rw [if_neg e, segMax_none b _ _ n hne]
      exact (bot_sup_eq _).symm
    · unfold St.cv'
      rw [if_neg e, segSum_none b _ _ n hne, zero_add, one_ideal]

theorem good_succ {b : ℕ → BitVec 32} {x : ℕ → Fin 128 → EReal} {n : ℕ} {s : St Ideal} (hb : ∀ i ≤ n, (b i).toNat < 128)
    (hs : ∀ i ≤ n, ∀ j ≤ n, i ≤ j → (b i).toNat ≤ (b j).toNat) (h : Good b x n s) : Good b x (n + 1) (s.step (b n) (x n)) := by
  obtain ⟨h1, h2, h3⟩ := good_run hb hs h
  refine ⟨fun g j => ?_, fun g j => ?_, fun g => ?_, fun e => absurd e (by omega), fun k e => ?_, fun k e j => ?_, fun k e j => ?_, fun k e => ?_⟩
  · rw [segSum_succ]
    show (if g = (b n).toNat then s.sv' (b n) (x n) else s.A g) j = _
    by_cases e : g = (b n).toNat
    · rw [if_pos e, if_pos e, h1, e]
    · rw [if_neg e, if_neg e, h.A]
  · rw [segMax_succ]
    show (if g = (b n).toNat then s.mv' (b n) (x n) else s.M g) j = _
    by_cases e : g = (b n).toNat
    · rw [if_pos e, if_pos e, h2, e]
    · rw [if_neg e, if_neg e, h.M]
  · rw [segSum_succ]
    show (if g = (b n).toNat then s.cv' (b n) else s.C g) = _
    by_cases e : g = (b n).toNat
    · rw [if_pos e, if_pos e, h3, e]
    · rw [if_neg e, if_neg e, h.C]
  · obtain rfl : n = k := by omega
    rfl
  · obtain rfl : n = k := by omega
    exact (congrFun (if_pos rfl : (if (b n).toNat = (b n).toNat then s.sv' (b n) (x n) else s.A (b n).toNat) = _) j).symm
  · obtain rfl : n = k := by omega
    exact (congrFun (if_pos rfl : (if (b n).toNat = (b n).toNat then s.mv' (b n) (x n) else s.M (b n).toNat) = _) j).symm
  · obtain rfl : n = k := by omega
    exact (if_pos rfl : (if (b n).toNat = (b n).toNat then s.cv' (b n) else s.C (b n).toNat) = _).symm

/-- The state after `n` rows in order. -/
theorem good (b : ℕ → BitVec 32) (x : ℕ → Fin 128 → EReal) : ∀ n : ℕ, (∀ i < n, (b i).toNat < 128) →
    (∀ i < n, ∀ j < n, i ≤ j → (b i).toNat ≤ (b j).toNat) → Good b x n (run (F := Ideal) b x n)
  | 0, _, _ => good_zero b x
  | n + 1, hb, hs => good_succ (fun i hi => hb i (by omega)) (fun i hi j hj => hs i (by omega) j (by omega))
      (good b x n (fun i hi => hb i (by omega)) fun i hi j hj => hs i (by omega) j (by omega))

/-! ## The thirty-two tiles together -/

theorem c0_succ (w : ℕ) : c0 (w + 1) = c0 w + cn w := by
  unfold c0 cn; split <;> omega

theorem sum_tiles (f : ℕ → EReal) (k : ℕ) :
    ∑ w ∈ Finset.range k, ∑ i ∈ Finset.range (200 * cn w), f (200 * c0 w + i) = ∑ r ∈ Finset.range (200 * c0 k), f r := by
  induction k with
  | zero => rfl
  | succ k ih => rw [Finset.sum_range_succ, ih, c0_succ, Nat.mul_add, Finset.sum_range_add]

theorem sup_range_add (f : ℕ → EReal) (n m : ℕ) :
    (Finset.range (n + m)).sup f = (Finset.range n).sup f ⊔ (Finset.range m).sup fun i => f (n + i) := by
  induction m with
  | zero => simp
  | succ m ih =>
    rw [← Nat.add_assoc, Finset.range_add_one, Finset.sup_insert, ih, Finset.range_add_one, Finset.sup_insert]
    exact sup_left_comm _ _ _

theorem sup_tiles (f : ℕ → EReal) (k : ℕ) :
    ((Finset.range k).sup fun w => (Finset.range (200 * cn w)).sup fun i => f (200 * c0 w + i)) = (Finset.range (200 * c0 k)).sup f := by
  induction k with
  | zero => rfl
  | succ k ih => rw [Finset.range_add_one, Finset.sup_insert, ih, c0_succ, Nat.mul_add, sup_range_add, sup_comm]

theorem sup_fin (n : ℕ) (f : ℕ → EReal) : (Finset.univ.sup fun i : Fin n => f i.val) = (Finset.range n).sup f := by
  refine le_antisymm (Finset.sup_le fun i _ => ?_) (Finset.sup_le fun i hi => ?_)
  · exact Finset.le_sup (f := f) (Finset.mem_range.2 i.isLt)
  · exact Finset.le_sup (f := fun i : Fin n => f i.val) (Finset.mem_univ (⟨i, Finset.mem_range.1 hi⟩ : Fin n))

section
variable (B : (⟨1, ![100000]⟩ : Shape).Idx → BitVec 32) (X : (SR 100000 128).Idx → EReal)

/-- The rows' segments and values, by number. -/
def bAll (r : ℕ) : BitVec 32 := B (ix1 (rowF r))
def xAll (j : Fin 128) (r : ℕ) : EReal := X (ix2 (rowF r) j)

theorem c0_le (w : ℕ) (hw : w < 32) : c0 w + cn w ≤ 500 := by
  unfold c0 cn; split <;> omega

variable {B}

theorem good_tile (hb : ∀ i, (B i).toNat < 128)
    (hs : ∀ i j, i ≤ j → j < 100000 → (bAll B i).toNat ≤ (bAll B j).toNat) (w : ℕ) (hw : w < 32) :
    Good (bOf B w) (xOf (F := Ideal) X w) (200 * cn w) (tile (F := Ideal) B X w) :=
  good _ _ _ (fun _ _ => hb _) fun i hi j hj hij => hs _ _ (by omega) (by have := c0_le w hw; omega)

theorem sum_A (hb : ∀ i, (B i).toNat < 128)
    (hs : ∀ i j, i ≤ j → j < 100000 → (bAll B i).toNat ≤ (bAll B j).toNat) (g : ℕ) (j : Fin 128) :
    ∑ w : Fin 32, (tile (F := Ideal) B X w.val).A g j = segSum (bAll B) (xAll X j) g 100000 := by
  rw [Fin.sum_univ_eq_sum_range (fun w => (tile (F := Ideal) B X w).A g j) 32]
  exact (Finset.sum_congr rfl fun w hw => (good_tile X hb hs w (Finset.mem_range.1 hw)).A g j).trans
    (sum_tiles (fun r => if (bAll B r).toNat = g then xAll X j r else 0) 32)

theorem sum_C (hb : ∀ i, (B i).toNat < 128)
    (hs : ∀ i j, i ≤ j → j < 100000 → (bAll B i).toNat ≤ (bAll B j).toNat) (g : ℕ) :
    ∑ w : Fin 32, (tile (F := Ideal) B X w.val).C g = segSum (bAll B) (fun _ => 1) g 100000 := by
  rw [Fin.sum_univ_eq_sum_range (fun w => (tile (F := Ideal) B X w).C g) 32]
  exact (Finset.sum_congr rfl fun w hw => (good_tile X hb hs w (Finset.mem_range.1 hw)).C g).trans
    (sum_tiles (fun r => if (bAll B r).toNat = g then 1 else 0) 32)

theorem sup_M (hb : ∀ i, (B i).toNat < 128)
    (hs : ∀ i j, i ≤ j → j < 100000 → (bAll B i).toNat ≤ (bAll B j).toNat) (g : ℕ) (j : Fin 128) :
    ((Finset.range 32).sup fun w => (show EReal from (tile (F := Ideal) B X w).M g j)) = segMax (bAll B) (xAll X j) g 100000 :=
  (Finset.sup_congr rfl fun w hw => (good_tile X hb hs w (Finset.mem_range.1 hw)).M g j).trans
    (sup_tiles (fun r => if (bAll B r).toNat = g then xAll X j r else ⊥) 32)

end

end Cert.Proof.Spec

end
-- ==== Proof.Pre.lean ====
/-
  What the preconditions say of the segment ids: each is below 128, and, by the second, they do not decrease along the rows.
-/
module

public import proofs.«01_k».proof.Proof.TileMath
public import proofs.«01_k».proof.Proof.Gen.Pre_in_range
public import proofs.«01_k».proof.Proof.Gen.Pre_sorted_batch
public import Idealize.ShloMosaic.Lib.ReduceAll

@[expose] public section

noncomputable section

namespace Cert.Proof.Pre

open Idealize.ShloMosaic Cert.Pre_sorted_batch Cert.Pre_sorted_batch.Gen
open Cert.Proof.Spec (ix1)

theorem and_ofBool (p q : Bool) : IntOp.andi (BitVec.ofBool p) (BitVec.ofBool q) = BitVec.ofBool (p && q) := by
  cases p <;> cases q <;> decide

theorem and_one {p q : BitVec 1} (h : IntOp.andi p q = 1#1) : p = 1#1 ∧ q = 1#1 := by
  revert h; revert p q; decide

theorem ofBool_one {p : Bool} (h : BitVec.ofBool p = 1#1) : p = true := by
  cases p
  · exact absurd h (by decide)
  · rfl

instance : Subsingleton S_.Idx := ⟨fun a b => funext fun i => i.elim0⟩

variable {F : FTy → Type} [FloatOps F] {x : FVec F S100000x128 .f32} {B : IVec S100000 32}

/-- The three parts of the order's precondition, at an element each. -/
theorem parts (h : fn (F := F) x B = fun _ => 1#1) :
    (∀ i, (0#32).sle (B i) = true) ∧ (∀ i, (B i).slt 128#32 = true)
      ∧ ∀ k : S99999.Idx, (extractStridedSlice S99999 ![0] B slices_S100000_S99999_0 k).sle
          (extractStridedSlice S99999 ![1] B slices_S100000_S99999_1 k) = true := by
  have e := congrFun h (Shape.Idx.first h_S_)
  dsimp only [fn, andi] at e
  obtain ⟨e12, e3⟩ := and_one e
  obtain ⟨e1, e2⟩ := and_one e12
  refine ⟨fun i => ?_, fun i => ?_, fun k => ?_⟩
  · exact ofBool_one (Host.reduce_andi_all _ _ _ _ _ e1 i)
  · exact ofBool_one (Host.reduce_andi_all _ _ _ _ _ e2 i)
  · exact ofBool_one (Host.reduce_andi_all _ _ _ _ _ e3 k)

theorem lt_128 {b : BitVec 32} (h0 : (0#32).sle b = true) (h1 : b.slt 128#32 = true) : b.toNat < 128 := by
  simp only [BitVec.sle_eq_decide, BitVec.slt_eq_decide, decide_eq_true_eq, BitVec.toInt_eq_toNat_cond, BitVec.toNat_ofNat,
    Nat.reducePow, Nat.reduceMod] at h0 h1
  have := b.isLt
  split at h0 <;> split at h1 <;> omega

/-- Every segment id is below 128, where they are in range. -/
theorem bound_of_range (h : Cert.Pre_in_range.fn (F := F) x B = fun _ => 1#1) (i : S100000.Idx) : (B i).toNat < 128 := by
  have e := congrFun h (Shape.Idx.first h_S_)
  dsimp only [Cert.Pre_in_range.fn, andi] at e
  obtain ⟨e1, e2⟩ := and_one e
  exact lt_128 (ofBool_one (Host.reduce_andi_all _ _ _ _ _ e1 i)) (ofBool_one (Host.reduce_andi_all _ _ _ _ _ e2 i))

/-- Every segment id is below 128, where they are in order. -/
theorem bound (h : fn (F := F) x B = fun _ => 1#1) (i : S100000.Idx) : (B i).toNat < 128 :=
  lt_128 ((parts h).1 i) ((parts h).2.1 i)

theorem le_of_sle {a b : BitVec 32} (ha : a.toNat < 128) (hb : b.toNat < 128) (h : a.sle b = true) : a.toNat ≤ b.toNat := by
  simp only [BitVec.sle_eq_decide, decide_eq_true_eq, BitVec.toInt_eq_toNat_cond, Nat.reducePow] at h
  split at h <;> split at h <;> omega

/-- The next row's segment id is no smaller. -/
theorem next (h : fn (F := F) x B = fun _ => 1#1) (k : ℕ) (hk : k + 1 < 100000) :
    (B (ix1 ⟨k, by omega⟩)).toNat ≤ (B (ix1 ⟨k + 1, hk⟩)).toNat := by
  have e := (parts h).2.2 (ix1 (n := 99999) ⟨k, by omega⟩)
  have e0 : extractStridedSlice S99999 ![0] B slices_S100000_S99999_0 (ix1 (n := 99999) ⟨k, by omega⟩) = B (ix1 ⟨k, by omega⟩) :=
    congrArg B (funext fun a => by match a with | 0 => exact Fin.ext (Nat.zero_add k))
  have e1 : extractStridedSlice S99999 ![1] B slices_S100000_S99999_1 (ix1 (n := 99999) ⟨k, by omega⟩) = B (ix1 ⟨k + 1, hk⟩) :=
    congrArg B (funext fun a => by match a with | 0 => exact Fin.ext (Nat.add_comm 1 k))
  rw [e0, e1] at e
  exact le_of_sle (bound h _) (bound h _) e

/-- Segment ids do not decrease along the rows. -/
theorem sorted (h : fn (F := F) x B = fun _ => 1#1) (i j : ℕ) (hij : i ≤ j) (hj : j < 100000) :
    (B (ix1 ⟨i, by omega⟩)).toNat ≤ (B (ix1 ⟨j, hj⟩)).toNat := by
  induction j with
  | zero => obtain rfl : i = 0 := by omega
            exact Nat.le_refl _
  | succ j ih =>
    by_cases he : i = j + 1
    · subst he; exact Nat.le_refl _
    · exact (ih (by omega) (by omega)).trans (next h j hj)

/-- The same of the rows' numbers. -/
theorem sorted_all (h : fn (F := F) x B = fun _ => 1#1) (i j : ℕ) (hij : i ≤ j) (hj : j < 100000) :
    (Spec.bAll B i).toNat ≤ (Spec.bAll B j).toNat := by
  have e : ∀ r (hr : r < 100000), Spec.bAll B r = B (ix1 ⟨r, hr⟩) := fun r hr =>
    congrArg (fun k => B (ix1 k)) (Fin.ext (Nat.mod_eq_of_lt hr))
  rw [e i (by omega), e j hj]
  exact sorted h i j hij hj

end Cert.Proof.Pre

end
-- ==== Proof.KIValue.lean ====
/-
  The merge's two tables over the extended reals: each entry is the mean, or the supremum, of its segment's rows.
-/
module

public import proofs.«01_k».proof.Proof.TileMath
public import proofs.«01_k».proof.Proof.KIMerge

@[expose] public section

noncomputable section

namespace Cert.Proof.KI

open Cert.KernelIdeal Cert.KernelIdeal.Gen
open Idealize.ShloMosaic
open Cert.Proof.Spec (ix1 ix2 bAll xAll segSum segMax tile outA outM outC)

variable {B : S100000.Idx → BitVec 32} (X : S100000x128.Idx → EReal)

/-- The mean and the supremum of segment `g` in column `j`. -/
def meanOf (X : S100000x128.Idx → EReal) (B : S100000.Idx → BitVec 32) (g j : Fin 128) : EReal :=
  Ideal.div (segSum (bAll B) (xAll X j) g.val 100000) (max (segSum (bAll B) (fun _ => 1) g.val 100000) 1)
def maxOf (X : S100000x128.Idx → EReal) (B : S100000.Idx → BitVec 32) (g j : Fin 128) : EReal := segMax (bAll B) (xAll X j) g.val 100000

theorem pay1_at (hb : ∀ i, (B i).toNat < 128)
    (hs : ∀ i j, i ≤ j → j < 100000 → (bAll B i).toNat ≤ (bAll B j).toNat) (g j : Fin 128) :
    k1_pay1 (F := Ideal) (outM (F := Ideal) B X) (ix2 (n := 128) (w := 128) g j) = maxOf X B g j := by
  dsimp only [k1_pay1]
  rw [shapeCast_self]
  refine (Ideal.multiReduction_maximumf_single _ _ _ _ _ _).trans ?_
  have e0 : (FloatOps.ofBits (F := Ideal) .f32 0xFF800000#32) = (⊥ : EReal) := Spec.ninf_ideal
  rw [e0]
  refine Eq.trans ?_ ((Spec.sup_fin 32 fun w => (tile (F := Ideal) B X w).M g.val j).trans (Spec.sup_M X hb hs g.val j))
  rfl

/-- The divisor: the first column of the counts, at least one, along every column. -/
theorem den_at (v : FVec Ideal S128x16 .f32) (g j : Fin 128) :
    broadcastTo S128x128 (maximumf (extractStridedSlice S128x1 ![0, 0] v slices_S128x16_o0_0_S128x1)
        (broadcast S128x1 (Scalar.ofBits (F := Ideal) .f32 0x3F800000#32))) broadcasts_S128x1_S128x128 (ix2 (n := 128) (w := 128) g j)
      = (max (v (ix2 (n := 128) (w := 16) g 0)) 1 : EReal) := by
  refine congrArg₂ (max : EReal → EReal → EReal) (congrArg v (funext fun a => ?_)) Spec.one_ideal
  match a with
  | 0 => exact Fin.ext (Nat.zero_add _)
  | 1 => exact Fin.ext rfl

theorem pay2_at (hb : ∀ i, (B i).toNat < 128)
    (hs : ∀ i j, i ≤ j → j < 100000 → (bAll B i).toNat ≤ (bAll B j).toNat) (g j : Fin 128) :
    k1_pay2 (F := Ideal) (outA (F := Ideal) B X) (outC (F := Ideal) B X) (ix2 (n := 128) (w := 128) g j) = meanOf X B g j := by
  dsimp only [k1_pay2]
  rw [shapeCast_self, shapeCast_self]
  have eA : multiReduction (F := Ideal) .add [0] S128x128 (outA (F := Ideal) B X) 0x00000000#32 reduces_S32x128x128_S128x128 (.inl rfl) rfl
      (ix2 (n := 128) (w := 128) g j) = segSum (bAll B) (xAll X j) g.val 100000 :=
    (Ideal.multiReduction_add_single _ _ _ _ _ _).trans (Spec.sum_A X hb hs g.val j)
  have eC : ∀ k : Fin 16, multiReduction (F := Ideal) .add [0] S128x16 (outC (F := Ideal) B X) 0x00000000#32 reduces_S32x128x16_S128x16 (.inl rfl) rfl
      (ix2 (n := 128) (w := 16) g k) = segSum (bAll B) (fun _ => 1) g.val 100000 := fun k =>
    (Ideal.multiReduction_add_single _ _ _ _ _ _).trans (Spec.sum_C X hb hs g.val)
  refine congrArg₂ Ideal.div eA ((den_at _ g j).trans ?_)
  rw [eC 0]

end Cert.Proof.KI

end
-- ==== Proof.RefValue.lean ====
/-
  The reference's terms over the extended reals, read at an index: the segment sums, the counts and the masked maximum.
-/
module

public import proofs.«01_k».proof.Proof.TileMath
public import proofs.«01_k».proof.Proof.Gen.ReferenceIdeal
public import Idealize.ShloMosaic.Lib.Routing.OpsPair

@[expose] public section

noncomputable section

namespace Cert.Proof.Ref

open Cert.ReferenceIdeal Cert.ReferenceIdeal.Gen
open Idealize.ShloMosaic
open Cert.Proof.Spec (ix1 ix2 ix2_eta bAll xAll rowF segSum segMax)

variable {B : S100000.Idx → BitVec 32} (X : S100000x128.Idx → EReal)

/-- The segment ids as a column of scatter indices. -/
abbrev col (B : S100000.Idx → BitVec 32) : IVec S100000x1 32 := broadcastInDim S100000x1 ![0] bcast_S100000_S100000x1_0 B

theorem rowF_val (r : Fin 100000) : rowF r.val = r := Fin.ext (Nat.mod_eq_of_lt r.isLt)

theorem toInt_eq {b : BitVec 32} (hb : b.toNat < 128) : b.toInt = (b.toNat : Int) := by
  rw [BitVec.toInt_eq_toNat_cond, if_pos (by omega)]

/-- Row `k` of the values lands on its segment's row, in its own column. -/
theorem lands2 (hb : ∀ i, (B i).toNat < 128) (k : S100000x128.Idx) (g j : Fin 128) :
    scatter_S128x128_S100000x1_S100000x128_1_0_0_1.resultIdx? k (col B) = some (ix2 (n := 128) (w := 128) g j)
      ↔ (B (ix1 (k 0))).toNat = g.val ∧ k 1 = j := by
  rw [Routing.resultIdx?_eq_some]
  have s0 : scatter_S128x128_S100000x1_S100000x128_1_0_0_1.start k (col B) 0 = (B (ix1 (k 0))).toInt := by
    refine congrArg (fun i => (B i).toInt) (funext fun a => ?_)
    match a with
    | 0 => exact Fin.ext rfl
  have s1 : scatter_S128x128_S100000x1_S100000x128_1_0_0_1.start k (col B) 1 = 0 := rfl
  have w0 : scatter_S128x128_S100000x1_S100000x128_1_0_0_1.window k 0 = 0 := rfl
  have w1 : scatter_S128x128_S100000x1_S100000x128_1_0_0_1.window k 1 = (k 1).val := rfl
  rw [show (∀ a : Fin S128x128.rank, _) ↔ _ from Fin.forall_fin_two, s0, s1, w0, w1, toInt_eq (hb _)]
  show ((B (ix1 (k 0))).toNat : Int) + ((0 : ℕ) : Int) = (g.val : Int) ∧ (0 : Int) + ((k 1).val : Int) = (j.val : Int) ↔ _
  refine (and_congr ?_ ?_)
  · constructor <;> intro h <;> omega
  · exact Iff.trans (b := (k 1).val = j.val) (by constructor <;> intro h <;> omega) (Fin.ext_iff (a := (show Fin 128 from k 1)) (b := j)).symm

/-- Row `k`'s one counts at its segment. -/
theorem lands1 (hb : ∀ i, (B i).toNat < 128) (k : S100000.Idx) (g : Fin 128) :
    scatter_S128_S100000x1_S100000_n_0_0_1.resultIdx? k (col B) = some (ix1 (n := 128) g) ↔ (B (ix1 (k 0))).toNat = g.val := by
  rw [Routing.resultIdx?_eq_some]
  have s0 : scatter_S128_S100000x1_S100000_n_0_0_1.start k (col B) 0 = (B (ix1 (k 0))).toInt := by
    refine congrArg (fun i => (B i).toInt) (funext fun a => ?_)
    match a with
    | 0 => exact Fin.ext rfl
  have w0 : scatter_S128_S100000x1_S100000_n_0_0_1.window k 0 = 0 := rfl
  rw [show (∀ a : Fin S128.rank, _) ↔ _ from Fin.forall_fin_one, s0, w0, toInt_eq (hb _)]
  show ((B (ix1 (k 0))).toNat : Int) + ((0 : ℕ) : Int) = (g.val : Int) ↔ _
  constructor <;> intro h <;> omega

/-- The rows of a matrix that land on one element, as a sum over the rows' numbers. -/
theorem sum_rows (b : ℕ → BitVec 32) (g : ℕ) (j : Fin 128) (X : S100000x128.Idx → EReal) (P : S100000x128.Idx → Prop) [DecidablePred P]
    (hP : ∀ k : S100000x128.Idx, P k ↔ (b (k 0).val).toNat = g ∧ k 1 = j) :
    ∑ k ∈ Finset.univ.filter P, X k = segSum b (xAll X j) g 100000 := by
  unfold segSum
  rw [← Finset.sum_filter]
  refine Finset.sum_nbij' (fun k => (k 0).val) (fun r => ix2 (rowF r) j) ?_ ?_ ?_ ?_ ?_
  · intro k hk
    have h := (hP k).1 (Finset.mem_filter.1 hk).2
    exact Finset.mem_filter.2 ⟨Finset.mem_range.2 (k 0).isLt, h.1⟩
  · intro r hr
    obtain ⟨h1, h2⟩ := Finset.mem_filter.1 hr
    have e : (rowF r).val = r := Nat.mod_eq_of_lt (Finset.mem_range.1 h1)
    refine Finset.mem_filter.2 ⟨Finset.mem_univ _, (hP _).2 ⟨?_, rfl⟩⟩
    show (b (rowF r).val).toNat = g
    rw [e]; exact h2
  · intro k hk
    have h := (hP k).1 (Finset.mem_filter.1 hk).2
    show ix2 (rowF (k 0).val) j = k
    rw [← h.2]
    exact (congrArg (fun i => ix2 i (k 1)) (rowF_val (k 0))).trans (ix2_eta k)
  · intro r hr
    exact Nat.mod_eq_of_lt (Finset.mem_range.1 (Finset.mem_filter.1 hr).1)
  · intro k hk
    have h := (hP k).1 (Finset.mem_filter.1 hk).2
    show X k = X (ix2 (rowF (k 0).val) j)
    rw [← h.2]
    exact congrArg X ((congrArg (fun i => ix2 i (k 1)) (rowF_val (k 0))).trans (ix2_eta k)).symm

/-- The ones of a vector that land on one element, likewise. -/
theorem sum_ones (b : ℕ → BitVec 32) (g : ℕ) (P : S100000.Idx → Prop) [DecidablePred P] (u : S100000.Idx → EReal) (hu : ∀ k, u k = 1)
    (hP : ∀ k : S100000.Idx, P k ↔ (b (k 0).val).toNat = g) :
    ∑ k ∈ Finset.univ.filter P, u k = segSum b (fun _ => 1) g 100000 := by
  unfold segSum
  rw [← Finset.sum_filter]
  refine Finset.sum_nbij' (fun k => (k 0).val) (fun r => ix1 (rowF r)) ?_ ?_ ?_ ?_ ?_
  · intro k hk
    exact Finset.mem_filter.2 ⟨Finset.mem_range.2 (k 0).isLt, (hP k).1 (Finset.mem_filter.1 hk).2⟩
  · intro r hr
    obtain ⟨h1, h2⟩ := Finset.mem_filter.1 hr
    have e : (rowF r).val = r := Nat.mod_eq_of_lt (Finset.mem_range.1 h1)
    refine Finset.mem_filter.2 ⟨Finset.mem_univ _, (hP _).2 ?_⟩
    show (b (rowF r).val).toNat = g
    rw [e]; exact h2
  · intro k _
    refine (congrArg ix1 (rowF_val (k 0))).trans (funext fun a => ?_)
    match a with
    | 0 => rfl
  · intro r hr
    exact Nat.mod_eq_of_lt (Finset.mem_range.1 (Finset.mem_filter.1 hr).1)
  · intro k _
    exact hu k

theorem bAll_row (r : Fin 100000) : bAll B r.val = B (ix1 r) := congrArg (fun i => B (ix1 i)) (rowF_val r)

theorem of_row (k : S100000x128.Idx) (g : ℕ) : (bAll B (k 0).val).toNat = g ↔ (B (ix1 (k 0))).toNat = g :=
  Eq.to_iff (congrArg (fun b : BitVec 32 => b.toNat = g) (bAll_row (B := B) (k 0)))
theorem of_row1 (k : S100000.Idx) (g : ℕ) : (bAll B (k 0).val).toNat = g ↔ (B (ix1 (k 0))).toNat = g :=
  Eq.to_iff (congrArg (fun b : BitVec 32 => b.toNat = g) (bAll_row (B := B) (k 0)))

/-- The sums by segment. -/
theorem sums_at (hb : ∀ i, (B i).toNat < 128) (g j : Fin 128) :
    Host.scatterAdd (F := Ideal) scatter_S128x128_S100000x1_S100000x128_1_0_0_1
        (broadcastInDim S128x128 ![] bcast_S_S128x128 (constant (F := Ideal) S_ .f32 0x00000000#32)) (col B) X (ix2 (n := 128) (w := 128) g j)
      = segSum (bAll B) (xAll X j) g.val 100000 := by
  refine Eq.trans (b := (Spec.zero : Ideal .f32) + ∑ k ∈ Finset.univ.filter fun k =>
    scatter_S128x128_S100000x1_S100000x128_1_0_0_1.resultIdx? k (col B) = some (ix2 (n := 128) (w := 128) g j), X k) rfl ?_
  rw [Spec.zero_ideal, sum_rows (bAll B) g.val j X _ fun k => (lands2 hb k g j).trans (and_congr_left' (of_row k g.val).symm)]
  exact zero_add _

/-- The counts by segment. -/
theorem counts_at (hb : ∀ i, (B i).toNat < 128) (g : Fin 128) :
    Host.scatterAdd (F := Ideal) scatter_S128_S100000x1_S100000_n_0_0_1
        (broadcastInDim S128 ![] bcast_S_S128 (constant (F := Ideal) S_ .f32 0x00000000#32)) (col B)
        (broadcastInDim S100000 ![] bcast_S_S100000 (constant (F := Ideal) S_ .f32 0x3F800000#32)) (ix1 (n := 128) g)
      = segSum (bAll B) (fun _ => 1) g.val 100000 := by
  refine Eq.trans (b := (Spec.zero : Ideal .f32) + ∑ k ∈ Finset.univ.filter fun k =>
    scatter_S128_S100000x1_S100000_n_0_0_1.resultIdx? k (col B) = some (ix1 (n := 128) g),
      broadcastInDim S100000 ![] bcast_S_S100000 (constant (F := Ideal) S_ .f32 0x3F800000#32) k) rfl ?_
  rw [Spec.zero_ideal]
  exact (zero_add _).trans (sum_ones (bAll B) g.val _ _ (fun _ => Spec.one_ideal) fun k => (lands1 hb k g).trans (of_row1 k g.val).symm)

/-! ## The masked maximum -/

/-- The values of the rows of each segment, and the bottom elsewhere. -/
abbrev masked (B : S100000.Idx → BitVec 32) (X : S100000x128.Idx → EReal) : FVec Ideal S128x100000x128 .f32 :=
  select (broadcastInDim S128x100000x128 ![0, 1, 2] bcast_S128x100000x1_S128x100000x128_0_1_2 (broadcastInDim S128x100000x1 ![0, 1] bcast_S128x100000_S128x100000x1_0_1 (cmpi .eq (broadcastInDim S128x100000 ![0, 1] bcast_S1x100000_S128x100000_0_1 (broadcastInDim S1x100000 ![1] bcast_S100000_S1x100000_1 B)) (broadcastInDim S128x100000 ![0, 1] bcast_S128x1_S128x100000_0_1 (broadcastInDim S128x1 ![0] bcast_S128_S128x1_0 (iotaInDim S128 32 0))))))
    (broadcastInDim S128x100000x128 ![0, 1, 2] bcast_S1x100000x128_S128x100000x128_0_1_2 (broadcastInDim S1x100000x128 ![1, 2] bcast_S100000x128_S1x100000x128_1_2 X))
    (broadcastInDim S128x100000x128 ![] bcast_S_S128x100000x128 (id (constant (F := Ideal) S_ .f32 0xFF800000#32)))

theorem reduces_mid : Shape.Reduces S128x100000x128 [1] S128x128 := by decide

theorem eq_select (b : BitVec 32) (g : ℕ) (hg : g < 128) (x y : EReal) :
    Scalar.select (IntOp.cmpi .eq b (BitVec.ofNat 32 g)) x y = if b.toNat = g then x else y := by
  have e : (b = BitVec.ofNat 32 g) ↔ b.toNat = g := by
    rw [← BitVec.toNat_inj, BitVec.toNat_ofNat, Nat.mod_eq_of_lt (by omega)]
  by_cases h : b.toNat = g
  · rw [if_pos h, e.2 h]
    simp [Scalar.select, IntOp.cmpi]
  · rw [if_neg h]
    simp [Scalar.select, IntOp.cmpi, beq_eq_false_iff_ne.2 (mt e.1 h)]

theorem masked_at (g j : Fin 128) (r : Fin 100000) :
    masked B X (reduces_mid.lift (ix2 (n := 128) (w := 128) g j) r)
      = if (bAll B r.val).toNat = g.val then xAll X j r.val else ⊥ := by
  have eX : X (ix2 r j) = xAll X j r.val := congrArg (fun i => X (ix2 i j)) (rowF_val r).symm
  rw [bAll_row, ← eX, ← Spec.ninf_ideal, ← eq_select _ _ g.isLt]
  refine congrArg₂ (fun b x => Scalar.select (IntOp.cmpi .eq b (BitVec.ofNat 32 g.val)) x (Spec.ninf : Ideal .f32))
    (congrArg B (funext fun a => ?_)) (congrArg X (funext fun a => ?_))
  · match a with
    | 0 => exact Fin.ext rfl
  · match a with
    | 0 => exact Fin.ext rfl
    | 1 => exact Fin.ext rfl

theorem max_at (g j : Fin 128) :
    Host.reduce FloatOps.maximumf (masked B X) (constant (F := Ideal) S_ .f32 0xFF800000#32) reducesTo_S128x100000x128_S128x128_d1 h_S_
        (ix2 (n := 128) (w := 128) g j)
      = segMax (bAll B) (xAll X j) g.val 100000 := by
  refine (Host.reduce_eq_fold_single _ _ _ _ reduces_mid _ _).trans ?_
  have e0 : constant (F := Ideal) S_ .f32 0xFF800000#32 (Shape.Idx.first h_S_) = (⊥ : EReal) := Spec.ninf_ideal
  rw [e0, show masked B X ∘ reduces_mid.lift (ix2 (n := 128) (w := 128) g j) = fun r : Fin 100000 =>
    if (bAll B r.val).toNat = g.val then xAll X j r.val else ⊥ from funext fun r => masked_at X g j r]
  exact Spec.sup_fin 100000 fun r => if (bAll B r).toNat = g.val then xAll X j r else ⊥

end Cert.Proof.Ref

end
-- ==== Proof.Alg.lean ====
/-
  The merge of the tiles' tables is the reference's result, over the extended reals.
-/
module

public import proofs.«01_k».proof.Proof.KIValue
public import proofs.«01_k».proof.Proof.RefValue
public import Idealize.ShloMosaic.Lib.Pointwise.SelectCore

@[expose] public section

noncomputable section

namespace Cert.Proof.Ref

open Cert.ReferenceIdeal Cert.ReferenceIdeal.Gen
open Idealize.ShloMosaic
open Cert.Proof.Spec (ix2_eta bAll xAll segSum segMax outA outM outC)

/-- The means by segment, as the reference has them. -/
abbrev means (B : S100000.Idx → BitVec 32) (X : S100000x128.Idx → EReal) : FVec Ideal S128x128 .f32 :=
  Host.divf (Host.scatterAdd scatter_S128x128_S100000x1_S100000x128_1_0_0_1 (broadcastInDim S128x128 ![] bcast_S_S128x128 (constant (F := Ideal) S_ .f32 0x00000000#32)) (col B) X)
    (broadcastInDim S128x128 ![0, 1] bcast_S128x1_S128x128_0_1 (broadcastInDim S128x1 ![0] bcast_S128_S128x1_0 (maximumf (Host.scatterAdd scatter_S128_S100000x1_S100000_n_0_0_1 (broadcastInDim S128 ![] bcast_S_S128 (constant (F := Ideal) S_ .f32 0x00000000#32)) (col B) (broadcastInDim S100000 ![] bcast_S_S100000 (constant (F := Ideal) S_ .f32 0x3F800000#32))) (broadcastInDim S128 ![] bcast_S_S128 (constant (F := Ideal) S_ .f32 0x3F800000#32)))))

/-- The maxima by segment, as the reference has them. -/
abbrev maxima (B : S100000.Idx → BitVec 32) (X : S100000x128.Idx → EReal) : FVec Ideal S128x128 .f32 :=
  Host.reduce FloatOps.maximumf (masked B X) (constant (F := Ideal) S_ .f32 0xFF800000#32) reducesTo_S128x100000x128_S128x128_d1 h_S_

/-- A row of a vector along every column. -/
theorem along_at (v : FVec Ideal S128 .f32) (g j : Fin 128) :
    broadcastInDim S128x128 ![0, 1] bcast_S128x1_S128x128_0_1 (broadcastInDim S128x1 ![0] bcast_S128_S128x1_0 v) (Spec.ix2 (n := 128) (w := 128) g j)
      = v (Spec.ix1 g) := by
  refine congrArg v (funext fun a => ?_)
  match a with
  | 0 => exact Fin.ext rfl

theorem quot_at (a b : FVec Ideal S128x128 .f32) (i : S128x128.Idx) : Host.divf a b i = Ideal.div (a i) (b i) := rfl
theorem larger_at (a b : FVec Ideal S128 .f32) (i : S128.Idx) : maximumf a b i = (max (a i) (b i) : EReal) := rfl

variable {B : S100000.Idx → BitVec 32} (X : S100000x128.Idx → EReal)

theorem means_at (hb : ∀ i, (B i).toNat < 128) (g j : Fin 128) : means B X (Spec.ix2 (n := 128) (w := 128) g j) = KI.meanOf X B g j := by
  refine (quot_at _ _ _).trans (congrArg₂ Ideal.div (sums_at X hb g j) ((along_at _ g j).trans ?_))
  exact (larger_at _ _ _).trans (congrArg₂ (max : EReal → EReal → EReal) (counts_at hb g) Spec.one_ideal)

/-- The reference's result is the merge. -/
theorem result (hb : ∀ i, (B i).toNat < 128)
    (hs : ∀ i j, i ≤ j → j < 100000 → (bAll B i).toNat ≤ (bAll B j).toNat) :
    concatenate S128x256 1 [⟨S128x128, means B X⟩, ⟨S128x128, maxima B X⟩] concatenates_S128x128_S128x128_S128x256_d1
      = KI.merged (F := Ideal) (outA (F := Ideal) B X) (outM (F := Ideal) B X) (outC (F := Ideal) B X) := by
  funext y
  have hy : (y 1).val < 256 := (y 1).isLt
  unfold KI.merged KI.halves
  refine (concatenate_pair_apply 1 (means B X) (maxima B X) concatenates_S128x128_S128x128_S128x256_d1 y).trans ?_
  by_cases h : (y 1).val < 128
  · refine Eq.trans (dif_pos h) (Eq.trans ?_ (dif_pos h).symm)
    refine Eq.trans ?_ (KI.pay2_at X hb hs (y 0) ⟨(y 1).val, h⟩).symm
    refine Eq.trans (congrArg (means B X) (funext fun a => ?_)) (means_at X hb (y 0) ⟨(y 1).val, h⟩)
    match a with
    | 0 => exact Fin.ext rfl
    | 1 => exact Fin.ext rfl
  · refine Eq.trans (dif_neg h) (Eq.trans ?_ (dif_neg h).symm)
    refine Eq.trans ?_ (KI.pay1_at X hb hs (y 0) ⟨(y 1).val - 128, by omega⟩).symm
    refine Eq.trans (congrArg (maxima B X) (funext fun a => ?_)) (max_at X (y 0) ⟨(y 1).val - 128, by omega⟩)
    match a with
    | 0 => exact Fin.ext rfl
    | 1 => exact Fin.ext rfl

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Gen.Pre_sorted_batch
public import proofs.«01_k».proof.Proof.KMain
public import proofs.«01_k».proof.Proof.KIMain
public import proofs.«01_k».proof.Proof.Pre
public import proofs.«01_k».proof.Proof.Alg
public import Idealize.ShloMosaic.Adequacy
public import Idealize.ShloMosaic.Lib.Quiescent
public import Idealize.ShloMosaic.Init

@[expose] public section

noncomputable section

namespace Cert.Proof

open Idealize.ShloMosaic Idealize.SL.Sem

/-- The kernel runs, leaves its arguments and ends with every counter at zero. -/
theorem frame_p : Cert.quiescent_Kernel := fun m ρ hpre =>
  (θ_run (Cert.Kernel.defs (F := Bits)) _ _).mono (fun _ h => ⟨fun c => ⟨(h.1 c).1, (h.1 c).2.1⟩, h.2⟩)
    (K.run_main (F := Bits) m ρ fun d j => Pre.bound_of_range (hpre d) j)

/-- So does the idealized kernel. -/
theorem frame_pi : Cert.quiescent_KernelIdeal := fun m ρ hpre =>
  (θ_run (Cert.KernelIdeal.defs (F := Ideal)) _ _).mono (fun _ h => ⟨fun c => ⟨(h.1 c).1, (h.1 c).2.1⟩, h.2⟩)
    (KI.run_main (F := Ideal) m ρ fun d j => Pre.bound_of_range (hpre d) j)

/-- The same where the rows are in order. -/
theorem frame_pi_pre : Cert.quiescent_KernelIdeal_pre_sorted_batch := fun m ρ hpre =>
  (θ_run (Cert.KernelIdeal.defs (F := Ideal)) _ _).mono (fun _ h => ⟨fun c => ⟨(h.1 c).1, (h.1 c).2.1⟩, h.2⟩)
    (KI.run_main (F := Ideal) m ρ fun d j => Pre.bound (hpre d) j)

/-- The reference runs and leaves its arguments; it has no semaphore. -/
theorem frame_ri : Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

/-- The same where the precondition is assumed. -/
theorem frame_ri_pre : Cert.quiescent_ReferenceIdeal_pre_sorted_batch := fun m ρ _ => frame_ri m ρ trivial

/-- Both leave the same result: each segment's mean beside its maximum. -/
theorem algebraic : Cert.algebraic_KernelIdeal_ReferenceIdeal_pre_sorted_batch := by
  intro m ρ m' ρ' hpre hag
  refine ⟨fun c => KI.oR (F := Ideal) m c,
    (θ_run (Cert.KernelIdeal.defs (F := Ideal)) _ _).mono (fun _ h c => ⟨(h.1 c).2.2, (h.1 c).1, (h.1 c).2.1⟩)
      (KI.run_main (F := Ideal) m ρ fun d j => Pre.bound (hpre d) j), ?_⟩
  refine (θ_run (Cert.ReferenceIdeal.defs (F := Ideal)) _ _).mono (fun _ h c => ⟨(h c).1.trans ?_, (h c).2⟩)
    (Cert.ReferenceIdeal.Value.run (F := Ideal) m' ρ')
  rw [(hag c).1, (hag c).2]
  exact Ref.result (B := KI.B m c) (KI.X (F := Ideal) m c) (Pre.bound (hpre c)) (Pre.sorted_all (hpre c))

theorem claim : Cert.Claim :=
  ⟨Cert.Kernel.Gen.facts, Cert.KernelIdeal.Gen.facts, Cert.ReferenceIdeal.Gen.facts, Cert.Pre_in_range.Gen.facts,
    Cert.Pre_sorted_batch.Gen.facts, frame_p, frame_pi, frame_pi_pre, frame_ri, frame_ri_pre, trivial, algebraic⟩

end Cert.Proof

end
